-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ranges [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ranges [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_ranges [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ranges : Cert.Pre_ranges.Facts),
    quiescent_Kernel (hKernel := hKernel)
    ∧ quiescent_KernelIdeal (hKernelIdeal := hKernelIdeal)
    ∧ quiescent_KernelIdeal_pre_ranges (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ preserves_Kernel_KernelIdeal
    ∧ algebraic_KernelIdeal_ReferenceIdeal_pre_ranges (hKernelIdeal := hKernelIdeal) (hReferenceIdeal := hReferenceIdeal) (hPre_ranges := hPre_ranges)
-- ==== Pre_ranges.lean ====
abbrev S16384x1x15x16 : Shape := ⟨4, ![16384, 1, 15, 16]⟩
abbrev S10x1x3x3 : Shape := ⟨4, ![10, 1, 3, 3]⟩
abbrev S10 : Shape := ⟨1, ![10]⟩
abbrev S1x10x3x3 : Shape := ⟨4, ![1, 10, 3, 3]⟩
abbrev S1 : Shape := ⟨1, ![1]⟩
abbrev S10x132 : Shape := ⟨2, ![10, 132]⟩
abbrev S1x10 : Shape := ⟨2, ![1, 10]⟩
abbrev S_ : Shape := ⟨0, ![]⟩

class Facts : Prop where
  bcast_S_S10x1x3x3 : S_.BroadcastsInDim S10x1x3x3 (![] : Fin 0 → Fin S10x1x3x3.rank)
  bcast_S_S1x10x3x3 : S_.BroadcastsInDim S1x10x3x3 (![] : Fin 0 → Fin S1x10x3x3.rank)
  bcast_S_S10x132 : S_.BroadcastsInDim S10x132 (![] : Fin 0 → Fin S10x132.rank)
  bcast_S_S1x10 : S_.BroadcastsInDim S1x10 (![] : Fin 0 → Fin S1x10.rank)
  bcast_S_S10 : S_.BroadcastsInDim S10 (![] : Fin 0 → Fin S10.rank)
  bcast_S_S1 : S_.BroadcastsInDim S1 (![] : Fin 0 → Fin S1.rank)
  bcast_S_S16384x1x15x16 : S_.BroadcastsInDim S16384x1x15x16 (![] : Fin 0 → Fin S16384x1x15x16.rank)

variable [Facts]

def fn_part1 {F : FTy → Type} [FloatOps F] (main_arg0 : IVec S16384x1x15x16 32) (main_arg2 : IVec S10 32) (main_arg4 : IVec S1 32) (main_arg6 : IVec S10 32) (main_arg7 : IVec S1x10 32) (main_arg8 : IVec S1 32) (main_v4 : IVec S10x1x3x3 1) (main_v9 : IVec S1x10x3x3 1) (main_v14 : IVec S10x132 1) (main_v16 : IVec S1x10 1) : IVec S16384x1x15x16 1 × IVec S10x1x3x3 1 × IVec S1x10x3x3 1 × IVec S10x132 1 × IVec S1x10 1 × IVec S10 1 × IVec S1 1 × IVec S10 1 × IVec S1 1 :=
  let main_c_6 : IVec S_ 32 := constantI S_ 32 128#32
  let main_v17 : IVec S1x10 32 := broadcastInDim S1x10 ![] bcast_S_S1x10 main_c_6
  let main_v18 : IVec S1x10 1 := cmpi .slt main_arg7 main_v17
  let main_v19 : IVec S1x10 1 := andi main_v16 main_v18
  let main_c_7 : IVec S_ 32 := constantI S_ 32 0#32
  let main_v20 : IVec S10 32 := broadcastInDim S10 ![] bcast_S_S10 main_c_7
  let main_v21 : IVec S10 1 := cmpi .eq main_arg2 main_v20
  let main_c_8 : IVec S_ 32 := constantI S_ 32 0#32
  let main_v22 : IVec S1 32 := broadcastInDim S1 ![] bcast_S_S1 main_c_8
  let main_v23 : IVec S1 1 := cmpi .eq main_arg4 main_v22
  let main_c_9 : IVec S_ 32 := constantI S_ 32 0#32
  let main_v24 : IVec S10 32 := broadcastInDim S10 ![] bcast_S_S10 main_c_9
  let main_v25 : IVec S10 1 := cmpi .eq main_arg6 main_v24
  let main_c_10 : IVec S_ 32 := constantI S_ 32 0#32
  let main_v26 : IVec S1 32 := broadcastInDim S1 ![] bcast_S_S1 main_c_10
  let main_v27 : IVec S1 1 := cmpi .eq main_arg8 main_v26
  let main_c_11 : IVec S_ 32 := constantI S_ 32 0#32
  let main_v28 : IVec S16384x1x15x16 32 := broadcastInDim S16384x1x15x16 ![] bcast_S_S16384x1x15x16 main_c_11
  let main_v29 : IVec S16384x1x15x16 1 := cmpi .sge main_arg0 main_v28
  let main_c_12 : IVec S_ 32 := constantI S_ 32 256#32
  let main_v30 : IVec S16384x1x15x16 32 := broadcastInDim S16384x1x15x16 ![] bcast_S_S16384x1x15x16 main_c_12
  let main_v31 : IVec S16384x1x15x16 1 := cmpi .slt main_arg0 main_v30
  let main_v32 : IVec S16384x1x15x16 1 := andi main_v29 main_v31
  (main_v32, main_v4, main_v9, main_v14, main_v19, main_v21, main_v23, main_v25, main_v27)

def fn {F : FTy → Type} [FloatOps F] (main_arg0 : IVec S16384x1x15x16 32) (main_arg1 : IVec S10x1x3x3 32) (main_arg2 : IVec S10 32) (main_arg3 : IVec S1x10x3x3 32) (main_arg4 : IVec S1 32) (main_arg5 : IVec S10x132 32) (main_arg6 : IVec S10 32) (main_arg7 : IVec S1x10 32) (main_arg8 : IVec S1 32) : IVec S16384x1x15x16 1 × IVec S10x1x3x3 1 × IVec S1x10x3x3 1 × IVec S10x132 1 × IVec S1x10 1 × IVec S10 1 × IVec S1 1 × IVec S10 1 × IVec S1 1 :=
  let main_c : IVec S_ 32 := constantI S_ 32 4294967168#32
  let main_v0 : IVec S10x1x3x3 32 := broadcastInDim S10x1x3x3 ![] bcast_S_S10x1x3x3 main_c
  let main_v1 : IVec S10x1x3x3 1 := cmpi .sge main_arg1 main_v0
  let main_c_0 : IVec S_ 32 := constantI S_ 32 128#32
  let main_v2 : IVec S10x1x3x3 32 := broadcastInDim S10x1x3x3 ![] bcast_S_S10x1x3x3 main_c_0
  let main_v3 : IVec S10x1x3x3 1 := cmpi .slt main_arg1 main_v2
  let main_v4 : IVec S10x1x3x3 1 := andi main_v1 main_v3
  let main_c_1 : IVec S_ 32 := constantI S_ 32 4294967168#32
  let main_v5 : IVec S1x10x3x3 32 := broadcastInDim S1x10x3x3 ![] bcast_S_S1x10x3x3 main_c_1
  let main_v6 : IVec S1x10x3x3 1 := cmpi .sge main_arg3 main_v5
  let main_c_2 : IVec S_ 32 := constantI S_ 32 128#32
  let main_v7 : IVec S1x10x3x3 32 := broadcastInDim S1x10x3x3 ![] bcast_S_S1x10x3x3 main_c_2
  let main_v8 : IVec S1x10x3x3 1 := cmpi .slt main_arg3 main_v7
  let main_v9 : IVec S1x10x3x3 1 := andi main_v6 main_v8
  let main_c_3 : IVec S_ 32 := constantI S_ 32 4294967168#32
  let main_v10 : IVec S10x132 32 := broadcastInDim S10x132 ![] bcast_S_S10x132 main_c_3
  let main_v11 : IVec S10x132 1 := cmpi .sge main_arg5 main_v10
  let main_c_4 : IVec S_ 32 := constantI S_ 32 128#32
  let main_v12 : IVec S10x132 32 := broadcastInDim S10x132 ![] bcast_S_S10x132 main_c_4
  let main_v13 : IVec S10x132 1 := cmpi .slt main_arg5 main_v12
  let main_v14 : IVec S10x132 1 := andi main_v11 main_v13
  let main_c_5 : IVec S_ 32 := constantI S_ 32 4294967168#32
  let main_v15 : IVec S1x10 32 := broadcastInDim S1x10 ![] bcast_S_S1x10 main_c_5
  let main_v16 : IVec S1x10 1 := cmpi .sge main_arg7 main_v15
  fn_part1 (F := F) main_arg0 main_arg2 main_arg4 main_arg6 main_arg7 main_arg8 main_v4 main_v9 main_v14 main_v16
-- ==== Kernel.lean ====
abbrev S16384x1x15x16 : Shape := ⟨4, ![16384, 1, 15, 16]⟩
abbrev S10x1x3x3 : Shape := ⟨4, ![10, 1, 3, 3]⟩
abbrev S10 : Shape := ⟨1, ![10]⟩
abbrev S1x10x3x3 : Shape := ⟨4, ![1, 10, 3, 3]⟩
abbrev S1 : Shape := ⟨1, ![1]⟩
abbrev S10x132 : Shape := ⟨2, ![10, 132]⟩
abbrev S1x10 : Shape := ⟨2, ![1, 10]⟩
abbrev S9x1820 : Shape := ⟨2, ![9, 1820]⟩
abbrev S9x132 : Shape := ⟨2, ![9, 132]⟩
abbrev S1820x1 : Shape := ⟨2, ![1820, 1]⟩
abbrev S10x1820 : Shape := ⟨2, ![10, 1820]⟩
abbrev S1820x10 : Shape := ⟨2, ![1820, 10]⟩
abbrev S16384x240 : Shape := ⟨2, ![16384, 240]⟩
abbrev S10x9 : Shape := ⟨2, ![10, 9]⟩
abbrev S16384x1 : Shape := ⟨2, ![16384, 1]⟩
abbrev S2048x240 : Shape := ⟨2, ![2048, 240]⟩
abbrev S2048x1 : Shape := ⟨2, ![2048, 1]⟩
abbrev S240x1820 : Shape := ⟨2, ![240, 1820]⟩
abbrev S1820x132 : Shape := ⟨2, ![1820, 132]⟩
abbrev S1x1820 : Shape := ⟨2, ![1, 1820]⟩
abbrev S1820x9 : Shape := ⟨2, ![1820, 9]⟩
abbrev S1x132 : Shape := ⟨2, ![1, 132]⟩
abbrev S2048x1820 : Shape := ⟨2, ![2048, 1820]⟩
abbrev S2048x132 : Shape := ⟨2, ![2048, 132]⟩
abbrev S2048x10 : Shape := ⟨2, ![2048, 10]⟩
abbrev S2048 : Shape := ⟨1, ![2048]⟩

abbrev nBuf : Space → Nat
  | .hbm => 22
  | .vmem => 15
  | .smem => 0
  | _ => 0

abbrev bufTy : (tb : Table) → Fin (tcTables nBuf tb) → BufTy
  | .hbm, ⟨0, _⟩ => ⟨S16384x1x15x16, .i32⟩
  | .hbm, ⟨1, _⟩ => ⟨S10x1x3x3, .i32⟩
  | .hbm, ⟨2, _⟩ => ⟨S10, .i32⟩
  | .hbm, ⟨3, _⟩ => ⟨S1x10x3x3, .i32⟩
  | .hbm, ⟨4, _⟩ => ⟨S1, .i32⟩
  | .hbm, ⟨5, _⟩ => ⟨S10x132, .i32⟩
  | .hbm, ⟨6, _⟩ => ⟨S10, .i32⟩
  | .hbm, ⟨7, _⟩ => ⟨S1x10, .i32⟩
  | .hbm, ⟨8, _⟩ => ⟨S1, .i32⟩
  | .hbm, ⟨9, _⟩ => ⟨S9x1820, .i32⟩
  | .hbm, ⟨10, _⟩ => ⟨S9x132, .i32⟩
  | .hbm, ⟨11, _⟩ => ⟨S1820x1, .i32⟩
  | .hbm, ⟨12, _⟩ => ⟨S10x1820, .bf16⟩
  | .hbm, ⟨13, _⟩ => ⟨S1820x10, .bf16⟩
  | .hbm, ⟨14, _⟩ => ⟨S16384x240, .i32⟩
  | .hbm, ⟨15, _⟩ => ⟨S10x9, .i32⟩
  | .hbm, ⟨16, _⟩ => ⟨S10x9, .bf16⟩
  | .hbm, ⟨17, _⟩ => ⟨S10x9, .i32⟩
  | .hbm, ⟨18, _⟩ => ⟨S10x9, .bf16⟩
  | .hbm, ⟨19, _⟩ => ⟨S10x132, .bf16⟩
  | .hbm, ⟨20, _⟩ => ⟨S1x10, .f32⟩
  | .hbm, ⟨21, _⟩ => ⟨S16384x1, .i32⟩
  | .local _ .vmem, ⟨0, _⟩ => ⟨S2048x240, .i32⟩
  | .local _ .vmem, ⟨1, _⟩ => ⟨S2048x240, .i32⟩
  | .local _ .vmem, ⟨2, _⟩ => ⟨S10x9, .bf16⟩
  | .local _ .vmem, ⟨3, _⟩ => ⟨S10x9, .bf16⟩
  | .local _ .vmem, ⟨4, _⟩ => ⟨S10x132, .bf16⟩
  | .local _ .vmem, ⟨5, _⟩ => ⟨S1x10, .f32⟩
  | .local _ .vmem, ⟨6, _⟩ => ⟨S9x1820, .i32⟩
  | .local _ .vmem, ⟨7, _⟩ => ⟨S9x132, .i32⟩
  | .local _ .vmem, ⟨8, _⟩ => ⟨S1820x1, .i32⟩
  | .local _ .vmem, ⟨9, _⟩ => ⟨S10x1820, .bf16⟩
  | .local _ .vmem, ⟨10, _⟩ => ⟨S1820x10, .bf16⟩
  | .local _ .vmem, ⟨11, _⟩ => ⟨S2048x1, .i32⟩
  | .local _ .vmem, ⟨12, _⟩ => ⟨S2048x1, .i32⟩
  | .local _ .vmem, ⟨13, _⟩ => ⟨S240x1820, .bf16⟩
  | .local _ .vmem, ⟨14, _⟩ => ⟨S1820x132, .bf16⟩
  | _, _ => ⟨S16384x1x15x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_cst : Ref sig .tc := ⟨.hbm, 12, rfl⟩
abbrev main_cst_2 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x240 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x9 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x9 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x132 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x1820 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x132 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1820x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x1820 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1820x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16384x1x15x16 : Shape := ⟨4, ![16384, 1, 15, 16]⟩
abbrev S10x1x3x3 : Shape := ⟨4, ![10, 1, 3, 3]⟩
abbrev S10 : Shape := ⟨1, ![10]⟩
abbrev S1x10x3x3 : Shape := ⟨4, ![1, 10, 3, 3]⟩
abbrev S1 : Shape := ⟨1, ![1]⟩
abbrev S10x132 : Shape := ⟨2, ![10, 132]⟩
abbrev S1x10 : Shape := ⟨2, ![1, 10]⟩
abbrev S_ : Shape := ⟨0, ![]⟩
abbrev S16384x10x13x14 : Shape := ⟨4, ![16384, 10, 13, 14]⟩
abbrev S16384x1x13x14 : Shape := ⟨4, ![16384, 1, 13, 14]⟩
abbrev S16384x1x1x13x14 : Shape := ⟨5, ![16384, 1, 1, 13, 14]⟩
abbrev S10x1x1x1 : Shape := ⟨4, ![10, 1, 1, 1]⟩
abbrev S10x1 : Shape := ⟨2, ![10, 1]⟩
abbrev S1x10x1x1x1 : Shape := ⟨5, ![1, 10, 1, 1, 1]⟩
abbrev S16384x10x1x13x14 : Shape := ⟨5, ![16384, 10, 1, 13, 14]⟩
abbrev S1x10x1x1 : Shape := ⟨4, ![1, 10, 1, 1]⟩
abbrev S16384x1x11x12 : Shape := ⟨4, ![16384, 1, 11, 12]⟩
abbrev S16384x10x11x12 : Shape := ⟨4, ![16384, 10, 11, 12]⟩
abbrev S16384x1x10x11x12 : Shape := ⟨5, ![16384, 1, 10, 11, 12]⟩
abbrev S1x1x10x1x1 : Shape := ⟨5, ![1, 1, 10, 1, 1]⟩
abbrev S1x1x1x1 : Shape := ⟨4, ![1, 1, 1, 1]⟩
abbrev S16384x132 : Shape := ⟨2, ![16384, 132]⟩
abbrev S16384x1x132 : Shape := ⟨3, ![16384, 1, 132]⟩
abbrev S1x10x132 : Shape := ⟨3, ![1, 10, 132]⟩
abbrev S16384x10x132 : Shape := ⟨3, ![16384, 10, 132]⟩
abbrev S16384x10 : Shape := ⟨2, ![16384, 10]⟩
abbrev S16384x1x10 : Shape := ⟨3, ![16384, 1, 10]⟩
abbrev S1x1x10 : Shape := ⟨3, ![1, 1, 10]⟩
abbrev S16384x1 : Shape := ⟨2, ![16384, 1]⟩
abbrev S1x1 : Shape := ⟨2, ![1, 1]⟩

abbrev nBuf : Space → Nat
  | .hbm => 272
  | .vmem => 0
  | .smem => 0
  | _ => 0

abbrev hbmTy0_0 (i : Nat) : BufTy := match i % 128 with
  | 0 => ⟨S16384x1x15x16, .i32⟩
  | 1 => ⟨S10x1x3x3, .i32⟩
  | 2 => ⟨S10, .i32⟩
  | 3 => ⟨S1x10x3x3, .i32⟩
  | 4 => ⟨S1, .i32⟩
  | 5 => ⟨S10x132, .i32⟩
  | 6 => ⟨S10, .i32⟩
  | 7 => ⟨S1x10, .i32⟩
  | 8 => ⟨S1, .i32⟩
  | 9 => ⟨S_, .i32⟩
  | 10 => ⟨S16384x10x13x14, .i32⟩
  | 11 => ⟨S16384x1x13x14, .i32⟩
  | 12 => ⟨S16384x1x1x13x14, .i32⟩
  | 13 => ⟨S10x1x1x1, .i32⟩
  | 14 => ⟨S10x1, .i32⟩
  | 15 => ⟨S1x10x1x1x1, .i32⟩
  | 16 => ⟨S16384x10x1x13x14, .i32⟩
  | 17 => ⟨S16384x10x1x13x14, .i32⟩
  | 18 => ⟨S16384x10x1x13x14, .i32⟩
  | 19 => ⟨S_, .i32⟩
  | 20 => ⟨S16384x10x13x14, .i32⟩
  | 21 => ⟨S16384x10x13x14, .i32⟩
  | 22 => ⟨S16384x1x13x14, .i32⟩
  | 23 => ⟨S16384x1x1x13x14, .i32⟩
  | 24 => ⟨S10x1x1x1, .i32⟩
  | 25 => ⟨S10x1, .i32⟩
  | 26 => ⟨S1x10x1x1x1, .i32⟩
  | 27 => ⟨S16384x10x1x13x14, .i32⟩
  | 28 => ⟨S16384x10x1x13x14, .i32⟩
  | 29 => ⟨S16384x10x1x13x14, .i32⟩
  | 30 => ⟨S_, .i32⟩
  | 31 => ⟨S16384x10x13x14, .i32⟩
  | 32 => ⟨S16384x10x13x14, .i32⟩
  | 33 => ⟨S16384x1x13x14, .i32⟩
  | 34 => ⟨S16384x1x1x13x14, .i32⟩
  | 35 => ⟨S10x1x1x1, .i32⟩
  | 36 => ⟨S10x1, .i32⟩
  | 37 => ⟨S1x10x1x1x1, .i32⟩
  | 38 => ⟨S16384x10x1x13x14, .i32⟩
  | 39 => ⟨S16384x10x1x13x14, .i32⟩
  | 40 => ⟨S16384x10x1x13x14, .i32⟩
  | 41 => ⟨S_, .i32⟩
  | 42 => ⟨S16384x10x13x14, .i32⟩
  | 43 => ⟨S16384x10x13x14, .i32⟩
  | 44 => ⟨S16384x1x13x14, .i32⟩
  | 45 => ⟨S16384x1x1x13x14, .i32⟩
  | 46 => ⟨S10x1x1x1, .i32⟩
  | 47 => ⟨S10x1, .i32⟩
  | 48 => ⟨S1x10x1x1x1, .i32⟩
  | 49 => ⟨S16384x10x1x13x14, .i32⟩
  | 50 => ⟨S16384x10x1x13x14, .i32⟩
  | 51 => ⟨S16384x10x1x13x14, .i32⟩
  | 52 => ⟨S_, .i32⟩
  | 53 => ⟨S16384x10x13x14, .i32⟩
  | 54 => ⟨S16384x10x13x14, .i32⟩
  | 55 => ⟨S16384x1x13x14, .i32⟩
  | 56 => ⟨S16384x1x1x13x14, .i32⟩
  | 57 => ⟨S10x1x1x1, .i32⟩
  | 58 => ⟨S10x1, .i32⟩
  | 59 => ⟨S1x10x1x1x1, .i32⟩
  | 60 => ⟨S16384x10x1x13x14, .i32⟩
  | 61 => ⟨S16384x10x1x13x14, .i32⟩
  | 62 => ⟨S16384x10x1x13x14, .i32⟩
  | 63 => ⟨S_, .i32⟩
  | 64 => ⟨S16384x10x13x14, .i32⟩
  | 65 => ⟨S16384x10x13x14, .i32⟩
  | 66 => ⟨S16384x1x13x14, .i32⟩
  | 67 => ⟨S16384x1x1x13x14, .i32⟩
  | 68 => ⟨S10x1x1x1, .i32⟩
  | 69 => ⟨S10x1, .i32⟩
  | 70 => ⟨S1x10x1x1x1, .i32⟩
  | 71 => ⟨S16384x10x1x13x14, .i32⟩
  | 72 => ⟨S16384x10x1x13x14, .i32⟩
  | 73 => ⟨S16384x10x1x13x14, .i32⟩
  | 74 => ⟨S_, .i32⟩
  | 75 => ⟨S16384x10x13x14, .i32⟩
  | 76 => ⟨S16384x10x13x14, .i32⟩
  | 77 => ⟨S16384x1x13x14, .i32⟩
  | 78 => ⟨S16384x1x1x13x14, .i32⟩
  | 79 => ⟨S10x1x1x1, .i32⟩
  | 80 => ⟨S10x1, .i32⟩
  | 81 => ⟨S1x10x1x1x1, .i32⟩
  | 82 => ⟨S16384x10x1x13x14, .i32⟩
  | 83 => ⟨S16384x10x1x13x14, .i32⟩
  | 84 => ⟨S16384x10x1x13x14, .i32⟩
  | 85 => ⟨S_, .i32⟩
  | 86 => ⟨S16384x10x13x14, .i32⟩
  | 87 => ⟨S16384x10x13x14, .i32⟩
  | 88 => ⟨S16384x1x13x14, .i32⟩
  | 89 => ⟨S16384x1x1x13x14, .i32⟩
  | 90 => ⟨S10x1x1x1, .i32⟩
  | 91 => ⟨S10x1, .i32⟩
  | 92 => ⟨S1x10x1x1x1, .i32⟩
  | 93 => ⟨S16384x10x1x13x14, .i32⟩
  | 94 => ⟨S16384x10x1x13x14, .i32⟩
  | 95 => ⟨S16384x10x1x13x14, .i32⟩
  | 96 => ⟨S_, .i32⟩
  | 97 => ⟨S16384x10x13x14, .i32⟩
  | 98 => ⟨S16384x10x13x14, .i32⟩
  | 99 => ⟨S16384x1x13x14, .i32⟩
  | 100 => ⟨S16384x1x1x13x14, .i32⟩
  | 101 => ⟨S10x1x1x1, .i32⟩
  | 102 => ⟨S10x1, .i32⟩
  | 103 => ⟨S1x10x1x1x1, .i32⟩
  | 104 => ⟨S16384x10x1x13x14, .i32⟩
  | 105 => ⟨S16384x10x1x13x14, .i32⟩
  | 106 => ⟨S16384x10x1x13x14, .i32⟩
  | 107 => ⟨S_, .i32⟩
  | 108 => ⟨S16384x10x13x14, .i32⟩
  | 109 => ⟨S16384x10x13x14, .i32⟩
  | 110 => ⟨S1x10x1x1, .i32⟩
  | 111 => ⟨S16384x10x13x14, .i32⟩
  | 112 => ⟨S16384x10x13x14, .i32⟩
  | 113 => ⟨S_, .i32⟩
  | 114 => ⟨S_, .i32⟩
  | 115 => ⟨S_, .i32⟩
  | 116 => ⟨S16384x10x13x14, .i32⟩
  | 117 => ⟨S16384x10x13x14, .i32⟩
  | 118 => ⟨S_, .i32⟩
  | 119 => ⟨S16384x10x13x14, .i32⟩
  | 120 => ⟨S16384x10x13x14, .i32⟩
  | 121 => ⟨S_, .i32⟩
  | 122 => ⟨S16384x10x13x14, .i32⟩
  | 123 => ⟨S16384x10x13x14, .i32⟩
  | 124 => ⟨S_, .i32⟩
  | 125 => ⟨S16384x1x11x12, .i32⟩
  | 126 => ⟨S16384x10x11x12, .i32⟩
  | 127 => ⟨S16384x1x10x11x12, .i32⟩
  | _ => ⟨S16384x1x15x16, .i32⟩

abbrev hbmTy0_1 (i : Nat) : BufTy := match i % 128 with
  | 0 => ⟨S1x10x1x1, .i32⟩
  | 1 => ⟨S1x10, .i32⟩
  | 2 => ⟨S1x1x10x1x1, .i32⟩
  | 3 => ⟨S16384x1x10x11x12, .i32⟩
  | 4 => ⟨S16384x1x10x11x12, .i32⟩
  | 5 => ⟨S_, .i32⟩
  | 6 => ⟨S16384x1x11x12, .i32⟩
  | 7 => ⟨S16384x1x11x12, .i32⟩
  | 8 => ⟨S16384x10x11x12, .i32⟩
  | 9 => ⟨S16384x1x10x11x12, .i32⟩
  | 10 => ⟨S1x10x1x1, .i32⟩
  | 11 => ⟨S1x10, .i32⟩
  | 12 => ⟨S1x1x10x1x1, .i32⟩
  | 13 => ⟨S16384x1x10x11x12, .i32⟩
  | 14 => ⟨S16384x1x10x11x12, .i32⟩
  | 15 => ⟨S_, .i32⟩
  | 16 => ⟨S16384x1x11x12, .i32⟩
  | 17 => ⟨S16384x1x11x12, .i32⟩
  | 18 => ⟨S16384x10x11x12, .i32⟩
  | 19 => ⟨S16384x1x10x11x12, .i32⟩
  | 20 => ⟨S1x10x1x1, .i32⟩
  | 21 => ⟨S1x10, .i32⟩
  | 22 => ⟨S1x1x10x1x1, .i32⟩
  | 23 => ⟨S16384x1x10x11x12, .i32⟩
  | 24 => ⟨S16384x1x10x11x12, .i32⟩
  | 25 => ⟨S_, .i32⟩
  | 26 => ⟨S16384x1x11x12, .i32⟩
  | 27 => ⟨S16384x1x11x12, .i32⟩
  | 28 => ⟨S16384x10x11x12, .i32⟩
  | 29 => ⟨S16384x1x10x11x12, .i32⟩
  | 30 => ⟨S1x10x1x1, .i32⟩
  | 31 => ⟨S1x10, .i32⟩
  | 32 => ⟨S1x1x10x1x1, .i32⟩
  | 33 => ⟨S16384x1x10x11x12, .i32⟩
  | 34 => ⟨S16384x1x10x11x12, .i32⟩
  | 35 => ⟨S_, .i32⟩
  | 36 => ⟨S16384x1x11x12, .i32⟩
  | 37 => ⟨S16384x1x11x12, .i32⟩
  | 38 => ⟨S16384x10x11x12, .i32⟩
  | 39 => ⟨S16384x1x10x11x12, .i32⟩
  | 40 => ⟨S1x10x1x1, .i32⟩
  | 41 => ⟨S1x10, .i32⟩
  | 42 => ⟨S1x1x10x1x1, .i32⟩
  | 43 => ⟨S16384x1x10x11x12, .i32⟩
  | 44 => ⟨S16384x1x10x11x12, .i32⟩
  | 45 => ⟨S_, .i32⟩
  | 46 => ⟨S16384x1x11x12, .i32⟩
  | 47 => ⟨S16384x1x11x12, .i32⟩
  | 48 => ⟨S16384x10x11x12, .i32⟩
  | 49 => ⟨S16384x1x10x11x12, .i32⟩
  | 50 => ⟨S1x10x1x1, .i32⟩
  | 51 => ⟨S1x10, .i32⟩
  | 52 => ⟨S1x1x10x1x1, .i32⟩
  | 53 => ⟨S16384x1x10x11x12, .i32⟩
  | 54 => ⟨S16384x1x10x11x12, .i32⟩
  | 55 => ⟨S_, .i32⟩
  | 56 => ⟨S16384x1x11x12, .i32⟩
  | 57 => ⟨S16384x1x11x12, .i32⟩
  | 58 => ⟨S16384x10x11x12, .i32⟩
  | 59 => ⟨S16384x1x10x11x12, .i32⟩
  | 60 => ⟨S1x10x1x1, .i32⟩
  | 61 => ⟨S1x10, .i32⟩
  | 62 => ⟨S1x1x10x1x1, .i32⟩
  | 63 => ⟨S16384x1x10x11x12, .i32⟩
  | 64 => ⟨S16384x1x10x11x12, .i32⟩
  | 65 => ⟨S_, .i32⟩
  | 66 => ⟨S16384x1x11x12, .i32⟩
  | 67 => ⟨S16384x1x11x12, .i32⟩
  | 68 => ⟨S16384x10x11x12, .i32⟩
  | 69 => ⟨S16384x1x10x11x12, .i32⟩
  | 70 => ⟨S1x10x1x1, .i32⟩
  | 71 => ⟨S1x10, .i32⟩
  | 72 => ⟨S1x1x10x1x1, .i32⟩
  | 73 => ⟨S16384x1x10x11x12, .i32⟩
  | 74 => ⟨S16384x1x10x11x12, .i32⟩
  | 75 => ⟨S_, .i32⟩
  | 76 => ⟨S16384x1x11x12, .i32⟩
  | 77 => ⟨S16384x1x11x12, .i32⟩
  | 78 => ⟨S16384x10x11x12, .i32⟩
  | 79 => ⟨S16384x1x10x11x12, .i32⟩
  | 80 => ⟨S1x10x1x1, .i32⟩
  | 81 => ⟨S1x10, .i32⟩
  | 82 => ⟨S1x1x10x1x1, .i32⟩
  | 83 => ⟨S16384x1x10x11x12, .i32⟩
  | 84 => ⟨S16384x1x10x11x12, .i32⟩
  | 85 => ⟨S_, .i32⟩
  | 86 => ⟨S16384x1x11x12, .i32⟩
  | 87 => ⟨S16384x1x11x12, .i32⟩
  | 88 => ⟨S1x1x1x1, .i32⟩
  | 89 => ⟨S16384x1x11x12, .i32⟩
  | 90 => ⟨S16384x1x11x12, .i32⟩
  | 91 => ⟨S_, .i32⟩
  | 92 => ⟨S_, .i32⟩
  | 93 => ⟨S_, .i32⟩
  | 94 => ⟨S16384x1x11x12, .i32⟩
  | 95 => ⟨S16384x1x11x12, .i32⟩
  | 96 => ⟨S_, .i32⟩
  | 97 => ⟨S16384x1x11x12, .i32⟩
  | 98 => ⟨S16384x1x11x12, .i32⟩
  | 99 => ⟨S_, .i32⟩
  | 100 => ⟨S16384x1x11x12, .i32⟩
  | 101 => ⟨S16384x1x11x12, .i32⟩
  | 102 => ⟨S16384x132, .i32⟩
  | 103 => ⟨S16384x1x132, .i32⟩
  | 104 => ⟨S1x10x132, .i32⟩
  | 105 => ⟨S16384x10x132, .i32⟩
  | 106 => ⟨S16384x10x132, .i32⟩
  | 107 => ⟨S16384x10x132, .i32⟩
  | 108 => ⟨S_, .i32⟩
  | 109 => ⟨S16384x10, .i32⟩
  | 110 => ⟨S1x10, .i32⟩
  | 111 => ⟨S16384x10, .i32⟩
  | 112 => ⟨S16384x10, .i32⟩
  | 113 => ⟨S_, .i32⟩
  | 114 => ⟨S_, .i32⟩
  | 115 => ⟨S_, .i32⟩
  | 116 => ⟨S16384x10, .i32⟩
  | 117 => ⟨S16384x10, .i32⟩
  | 118 => ⟨S_, .i32⟩
  | 119 => ⟨S16384x10, .i32⟩
  | 120 => ⟨S16384x10, .i32⟩
  | 121 => ⟨S_, .i32⟩
  | 122 => ⟨S16384x10, .i32⟩
  | 123 => ⟨S16384x10, .i32⟩
  | 124 => ⟨S16384x1x10, .i32⟩
  | 125 => ⟨S1x1x10, .i32⟩
  | 126 => ⟨S16384x1x10, .i32⟩
  | 127 => ⟨S16384x1x10, .i32⟩
  | _ => ⟨S16384x1x15x16, .i32⟩

abbrev hbmTy0_2 (i : Nat) : BufTy := match i % 128 with
  | 0 => ⟨S_, .i32⟩
  | 1 => ⟨S16384x1, .i32⟩
  | 2 => ⟨S1x1, .i32⟩
  | 3 => ⟨S16384x1, .i32⟩
  | 4 => ⟨S16384x1, .i32⟩
  | 5 => ⟨S_, .i32⟩
  | 6 => ⟨S_, .i32⟩
  | 7 => ⟨S_, .i32⟩
  | 8 => ⟨S16384x1, .i32⟩
  | 9 => ⟨S16384x1, .i32⟩
  | 10 => ⟨S_, .i32⟩
  | 11 => ⟨S16384x1, .i32⟩
  | 12 => ⟨S16384x1, .i32⟩
  | 13 => ⟨S_, .i32⟩
  | 14 => ⟨S16384x1, .i32⟩
  | 15 => ⟨S16384x1, .i32⟩
  | _ => ⟨S16384x1x15x16, .i32⟩

abbrev hbmTy (i : Nat) : BufTy := match i / 128 with
  | 0 => hbmTy0_0 i
  | 1 => hbmTy0_1 i
  | 2 => hbmTy0_2 i
  | _ => ⟨S16384x1x15x16, .i32⟩

abbrev bufTy : (tb : Table) → Fin (tcTables nBuf tb) → BufTy
  | .hbm, ⟨i, _⟩ => hbmTy i
  | _, _ => ⟨S16384x1x15x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_6 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_c_7 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_c_8 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_c_9 : Ref sig .tc := ⟨.hbm, 113, rfl⟩
abbrev main_c_10 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_v94 : Ref sig .tc := ⟨.hbm, 120, rfl⟩
abbrev main_c_11 : Ref sig .tc := ⟨.hbm, 121, rfl⟩
abbrev main_v95 : Ref sig .tc := ⟨.hbm, 122, rfl⟩
abbrev main_v96 : Ref sig .tc := ⟨.hbm, 123, rfl⟩
abbrev main_c_12 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_13 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_c_14 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_c_15 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_c_16 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_c_17 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_c_18 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_c_19 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_c_20 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_c_21 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_c_22 : Ref sig .tc := ⟨.hbm, 219, rfl⟩
abbrev main_c_23 : Ref sig .tc := ⟨.hbm, 220, rfl⟩
abbrev main_call1_v0 : Ref sig .tc := ⟨.hbm, 221, rfl⟩
abbrev main_call1_v1 : Ref sig .tc := ⟨.hbm, 222, rfl⟩
abbrev main_call1_v2 : Ref sig .tc := ⟨.hbm, 223, rfl⟩
abbrev main_call1_v3 : Ref sig .tc := ⟨.hbm, 224, rfl⟩
abbrev main_call1_v4 : Ref sig .tc := ⟨.hbm, 225, rfl⟩
abbrev main_v182 : Ref sig .tc := ⟨.hbm, 226, rfl⟩
abbrev main_c_24 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_c_25 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_c_26 : Ref sig .tc := ⟨.hbm, 241, rfl⟩
abbrev main_c_27 : Ref sig .tc := ⟨.hbm, 242, rfl⟩
abbrev main_call2_v0 : Ref sig .tc := ⟨.hbm, 243, rfl⟩
abbrev main_call2_v1 : Ref sig .tc := ⟨.hbm, 244, rfl⟩
abbrev main_call2_v2 : Ref sig .tc := ⟨.hbm, 245, rfl⟩
abbrev main_call2_v3 : Ref sig .tc := ⟨.hbm, 246, rfl⟩
abbrev main_call2_v4 : Ref sig .tc := ⟨.hbm, 247, rfl⟩
abbrev main_v195 : Ref sig .tc := ⟨.hbm, 248, rfl⟩
abbrev main_c_28 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_c_29 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_c_30 : Ref sig .tc := ⟨.hbm, 261, rfl⟩
abbrev main_c_31 : Ref sig .tc := ⟨.hbm, 262, rfl⟩
abbrev main_call3_v0 : Ref sig .tc := ⟨.hbm, 263, rfl⟩
abbrev main_call3_v1 : Ref sig .tc := ⟨.hbm, 264, rfl⟩
abbrev main_call3_v2 : Ref sig .tc := ⟨.hbm, 265, rfl⟩
abbrev main_call3_v3 : Ref sig .tc := ⟨.hbm, 266, rfl⟩
abbrev main_call3_v4 : Ref sig .tc := ⟨.hbm, 267, rfl⟩
abbrev main_v206 : Ref sig .tc := ⟨.hbm, 268, rfl⟩
abbrev main_c_32 : Ref sig .tc := ⟨.hbm, 269, rfl⟩
abbrev main_v207 : Ref sig .tc := ⟨.hbm, 270, rfl⟩
abbrev main_v208 : Ref sig .tc := ⟨.hbm, 271, rfl⟩

abbrev nD : Nat := 1
abbrev τ : Topo := Topo.v7x

variable {F : FTy → Type} [FloatOps F]
-- ==== Proof.Body.lean ====
module

public import proofs.«01_k».proof.Proof.Gen.KernelIdeal.Frame
public import Idealize.ShloMosaic.Lib.Pointwise

/-! What one run of the kernel's body leaves in the output block and in the two matrices it builds at the first
    grid point, as functions of the blocks it reads. -/

@[expose] public section

set_option maxRecDepth 16384

noncomputable section

namespace Cert.KernelIdeal.Body

open Idealize.ShloMosaic Idealize.ShloMosaic.TcCoe Idealize.ShloMosaic.Tactic Cert.KernelIdeal Cert.KernelIdeal.Gen

variable {F : FTy → Type} [FloatOps F]

/-- Row `t` of the table of first-layer tap positions. -/
def row1 (T : Vec F S9x1820 .i32) (t : Fin 9) : Vec F S1x1820 .i32 := fun i => T (ix2 t (i 1))

/-- Row `t` of the table of second-layer tap positions. -/
def row2 (T : Vec F S9x132 .i32) (t : Fin 9) : Vec F S1x132 .i32 := fun i => T (ix2 t (i 1))

/-- The first-layer matrix the body builds at the first grid point. -/
def mat1 (w : Vec F S10x9 .bf16) (T : Vec F S9x1820 .i32) (e : Vec F S10x1820 .bf16) : FVec F S240x1820 .bf16 :=
  k0_pay4 (k0_pay2 w e) (iota .tc S240x1820 32 [0] iota_S240x1820_d0_w32)
    (k0_pay3 w e (row1 T 0) (row1 T 1) (row1 T 2) (row1 T 3) (row1 T 4)) (row1 T 5) (row1 T 6) (row1 T 7) (row1 T 8)

/-- The second-layer matrix the body builds at the first grid point. -/
def mat2 (w : Vec F S10x9 .bf16) (T : Vec F S9x132 .i32) (p : Vec F S1820x1 .i32) (e : Vec F S1820x10 .bf16) : FVec F S1820x132 .bf16 :=
  k0_pay9 (k0_pay5 e w)
    (k0_pay8 (k0_pay5 e w) (k0_pay6 (F := F)) (k0_pay7 (F := F) p (row2 T 0)) p (row2 T 1) p (row2 T 2) p (row2 T 3) p (row2 T 4))
    p (row2 T 5) p (row2 T 6) p (row2 T 7) p (row2 T 8)

/-- The output block from the input block, the two matrices and the two fully connected layers' weights. -/
def outBlock (x : Vec F S2048x240 .i32) (m1 : Vec F S240x1820 .bf16) (m2 : Vec F S1820x132 .bf16) (f : Vec F S10x132 .bf16)
    (g : Vec F S1x10 .f32) : IVec S2048x1 32 :=
  k0_pay1 (k0_pay10 x m1 m2 f) (k0_pay11 x m1 m2 f) (Scalar.ofBits .f32 0x43800000#32) g

/-- The two zero offsets are the constant zero. -/
theorem off00 : (![0, 0] : Fin 2 → Nat) = fun _ => 0 := funext fun a => by fin_cases a <;> rfl

/-- A row of the first table, loaded. -/
theorem load_row1 (T : Vec F S9x1820 .i32) (t : Fin 9) (h : ∀ a, (![t.val, 0] : Fin 2 → Nat) a + (![1, 1820] : Fin 2 → Nat) a ≤ S9x1820.size a) :
    View.ld T (Rect.unit (s := S9x1820) ![t.val, 0] ![1, 1820] h) = row1 T t := by
  funext i
  pointwise [row1]

/-- A row of the second table, loaded. -/
theorem load_row2 (T : Vec F S9x132 .i32) (t : Fin 9) (h : ∀ a, (![t.val, 0] : Fin 2 → Nat) a + (![1, 132] : Fin 2 → Nat) a ≤ S9x132.size a) :
    View.ld T (Rect.unit (s := S9x132) ![t.val, 0] ![1, 132] h) = row2 T t := by
  funext i
  pointwise [row2]

/-- At the first point the first scratch is left with the first-layer matrix. -/
theorem sout0_A_0_eq (c : Dev nD) (i : grid0.Coords) (arg1 : Memref sig .tc .vmem S2048x240 .i32) (harg1 : arg1.IsWhole) (arg2 : Memref sig .tc .vmem S10x9 .bf16) (harg2 : arg2.IsWhole) (arg3 : Memref sig .tc .vmem S10x9 .bf16) (harg3 : arg3.IsWhole) (arg4 : Memref sig .tc .vmem S10x132 .bf16) (harg4 : arg4.IsWhole) (arg5 : Memref sig .tc .vmem S1x10 .f32) (harg5 : arg5.IsWhole) (arg6 : Memref sig .tc .vmem S9x1820 .i32) (harg6 : arg6.IsWhole) (arg7 : Memref sig .tc .vmem S9x132 .i32) (harg7 : arg7.IsWhole) (arg8 : Memref sig .tc .vmem S1820x1 .i32) (harg8 : arg8.IsWhole) (arg9 : Memref sig .tc .vmem S10x1820 .bf16) (harg9 : arg9.IsWhole) (arg10 : Memref sig .tc .vmem S1820x10 .bf16) (harg10 : arg10.IsWhole) (arg11 : Memref sig .tc .vmem S2048x1 .i32) (harg11 : arg11.IsWhole) (arg12 : Memref sig .tc .vmem S240x1820 .bf16) (harg12 : arg12.IsWhole) (arg13 : Memref sig .tc .vmem S1820x132 .bf16) (harg13 : arg13.IsWhole) (hc0 : cond0_0 i)
    (x0 : Vec F S2048x240 .i32) (x1 : Vec F S10x9 .bf16) (x2 : Vec F S10x9 .bf16) (x3 : Vec F S10x132 .bf16) (x4 : Vec F S1x10 .f32) (x5 : Vec F S9x1820 .i32) (x6 : Vec F S9x132 .i32) (x7 : Vec F S1820x1 .i32) (x8 : Vec F S10x1820 .bf16) (x9 : Vec F S1820x10 .bf16) :
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = mat1 x1 x5 x8 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A; dsimp only
  sl_unfold_words
  rw [View.canon_unit_zero off00]
  simp only [View.readAt_eq_ld, harg1.read_unread, harg2.read_unread, harg3.read_unread, harg4.read_unread, harg5.read_unread, harg6.read_unread, harg7.read_unread, harg8.read_unread, harg9.read_unread, harg10.read_unread, View.ld_unit_zero (S := S2048x240) off00, View.ld_unit_zero (S := S240x1820) off00, View.ld_unit_zero (S := S1820x132) off00, View.ld_unit_zero (S := S10x132) off00, View.ld_unit_zero (S := S1x10) off00, View.ld_unit_zero (S := S10x9) off00, View.ld_unit_zero (S := S10x1820) off00, View.ld_unit_zero (S := S1820x10) off00, View.ld_unit_zero (S := S1820x1) off00]
  have r10 : View.ld x5 (Rect.unit (s := S9x1820) ![0, 0] ![1, 1820] inb_S9x1820_S1x1820_0_0) = row1 x5 0 := load_row1 x5 0 inb_S9x1820_S1x1820_0_0
  have r11 : View.ld x5 (Rect.unit (s := S9x1820) ![1, 0] ![1, 1820] inb_S9x1820_S1x1820_1_0) = row1 x5 1 := load_row1 x5 1 inb_S9x1820_S1x1820_1_0
  have r12 : View.ld x5 (Rect.unit (s := S9x1820) ![2, 0] ![1, 1820] inb_S9x1820_S1x1820_2_0) = row1 x5 2 := load_row1 x5 2 inb_S9x1820_S1x1820_2_0
  have r13 : View.ld x5 (Rect.unit (s := S9x1820) ![3, 0] ![1, 1820] inb_S9x1820_S1x1820_3_0) = row1 x5 3 := load_row1 x5 3 inb_S9x1820_S1x1820_3_0
  have r14 : View.ld x5 (Rect.unit (s := S9x1820) ![4, 0] ![1, 1820] inb_S9x1820_S1x1820_4_0) = row1 x5 4 := load_row1 x5 4 inb_S9x1820_S1x1820_4_0
  have r15 : View.ld x5 (Rect.unit (s := S9x1820) ![5, 0] ![1, 1820] inb_S9x1820_S1x1820_5_0) = row1 x5 5 := load_row1 x5 5 inb_S9x1820_S1x1820_5_0
  have r16 : View.ld x5 (Rect.unit (s := S9x1820) ![6, 0] ![1, 1820] inb_S9x1820_S1x1820_6_0) = row1 x5 6 := load_row1 x5 6 inb_S9x1820_S1x1820_6_0
  have r17 : View.ld x5 (Rect.unit (s := S9x1820) ![7, 0] ![1, 1820] inb_S9x1820_S1x1820_7_0) = row1 x5 7 := load_row1 x5 7 inb_S9x1820_S1x1820_7_0
  have r18 : View.ld x5 (Rect.unit (s := S9x1820) ![8, 0] ![1, 1820] inb_S9x1820_S1x1820_8_0) = row1 x5 8 := load_row1 x5 8 inb_S9x1820_S1x1820_8_0
  rw [r10, r11, r12, r13, r14, r15, r16, r17, r18]
  rfl

/-- At the first point the second scratch is left with the second-layer matrix. -/
theorem sout0_A_1_eq (c : Dev nD) (i : grid0.Coords) (arg1 : Memref sig .tc .vmem S2048x240 .i32) (harg1 : arg1.IsWhole) (arg2 : Memref sig .tc .vmem S10x9 .bf16) (harg2 : arg2.IsWhole) (arg3 : Memref sig .tc .vmem S10x9 .bf16) (harg3 : arg3.IsWhole) (arg4 : Memref sig .tc .vmem S10x132 .bf16) (harg4 : arg4.IsWhole) (arg5 : Memref sig .tc .vmem S1x10 .f32) (harg5 : arg5.IsWhole) (arg6 : Memref sig .tc .vmem S9x1820 .i32) (harg6 : arg6.IsWhole) (arg7 : Memref sig .tc .vmem S9x132 .i32) (harg7 : arg7.IsWhole) (arg8 : Memref sig .tc .vmem S1820x1 .i32) (harg8 : arg8.IsWhole) (arg9 : Memref sig .tc .vmem S10x1820 .bf16) (harg9 : arg9.IsWhole) (arg10 : Memref sig .tc .vmem S1820x10 .bf16) (harg10 : arg10.IsWhole) (arg11 : Memref sig .tc .vmem S2048x1 .i32) (harg11 : arg11.IsWhole) (arg12 : Memref sig .tc .vmem S240x1820 .bf16) (harg12 : arg12.IsWhole) (arg13 : Memref sig .tc .vmem S1820x132 .bf16) (harg13 : arg13.IsWhole) (hc0 : cond0_0 i)
    (x0 : Vec F S2048x240 .i32) (x1 : Vec F S10x9 .bf16) (x2 : Vec F S10x9 .bf16) (x3 : Vec F S10x132 .bf16) (x4 : Vec F S1x10 .f32) (x5 : Vec F S9x1820 .i32) (x6 : Vec F S9x132 .i32) (x7 : Vec F S1820x1 .i32) (x8 : Vec F S10x1820 .bf16) (x9 : Vec F S1820x10 .bf16) :
    sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = mat2 x2 x6 x7 x9 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A; dsimp only
  sl_unfold_words
  rw [View.canon_unit_zero off00]
  simp only [View.readAt_eq_ld, harg1.read_unread, harg2.read_unread, harg3.read_unread, harg4.read_unread, harg5.read_unread, harg6.read_unread, harg7.read_unread, harg8.read_unread, harg9.read_unread, harg10.read_unread, View.ld_unit_zero (S := S2048x240) off00, View.ld_unit_zero (S := S240x1820) off00, View.ld_unit_zero (S := S1820x132) off00, View.ld_unit_zero (S := S10x132) off00, View.ld_unit_zero (S := S1x10) off00, View.ld_unit_zero (S := S10x9) off00, View.ld_unit_zero (S := S10x1820) off00, View.ld_unit_zero (S := S1820x10) off00, View.ld_unit_zero (S := S1820x1) off00]
  have r20 : View.ld x6 (Rect.unit (s := S9x132) ![0, 0] ![1, 132] inb_S9x132_S1x132_0_0) = row2 x6 0 := load_row2 x6 0 inb_S9x132_S1x132_0_0
  have r21 : View.ld x6 (Rect.unit (s := S9x132) ![1, 0] ![1, 132] inb_S9x132_S1x132_1_0) = row2 x6 1 := load_row2 x6 1 inb_S9x132_S1x132_1_0
  have r22 : View.ld x6 (Rect.unit (s := S9x132) ![2, 0] ![1, 132] inb_S9x132_S1x132_2_0) = row2 x6 2 := load_row2 x6 2 inb_S9x132_S1x132_2_0
  have r23 : View.ld x6 (Rect.unit (s := S9x132) ![3, 0] ![1, 132] inb_S9x132_S1x132_3_0) = row2 x6 3 := load_row2 x6 3 inb_S9x132_S1x132_3_0
  have r24 : View.ld x6 (Rect.unit (s := S9x132) ![4, 0] ![1, 132] inb_S9x132_S1x132_4_0) = row2 x6 4 := load_row2 x6 4 inb_S9x132_S1x132_4_0
  have r25 : View.ld x6 (Rect.unit (s := S9x132) ![5, 0] ![1, 132] inb_S9x132_S1x132_5_0) = row2 x6 5 := load_row2 x6 5 inb_S9x132_S1x132_5_0
  have r26 : View.ld x6 (Rect.unit (s := S9x132) ![6, 0] ![1, 132] inb_S9x132_S1x132_6_0) = row2 x6 6 := load_row2 x6 6 inb_S9x132_S1x132_6_0
  have r27 : View.ld x6 (Rect.unit (s := S9x132) ![7, 0] ![1, 132] inb_S9x132_S1x132_7_0) = row2 x6 7 := load_row2 x6 7 inb_S9x132_S1x132_7_0
  have r28 : View.ld x6 (Rect.unit (s := S9x132) ![8, 0] ![1, 132] inb_S9x132_S1x132_8_0) = row2 x6 8 := load_row2 x6 8 inb_S9x132_S1x132_8_0
  rw [r20, r21, r22, r23, r24, r25, r26, r27, r28]
  rfl

/-- At the first point the output block is computed from the matrices just built. -/
theorem out0_A_10_eq (c : Dev nD) (i : grid0.Coords) (arg1 : Memref sig .tc .vmem S2048x240 .i32) (harg1 : arg1.IsWhole) (arg2 : Memref sig .tc .vmem S10x9 .bf16) (harg2 : arg2.IsWhole) (arg3 : Memref sig .tc .vmem S10x9 .bf16) (harg3 : arg3.IsWhole) (arg4 : Memref sig .tc .vmem S10x132 .bf16) (harg4 : arg4.IsWhole) (arg5 : Memref sig .tc .vmem S1x10 .f32) (harg5 : arg5.IsWhole) (arg6 : Memref sig .tc .vmem S9x1820 .i32) (harg6 : arg6.IsWhole) (arg7 : Memref sig .tc .vmem S9x132 .i32) (harg7 : arg7.IsWhole) (arg8 : Memref sig .tc .vmem S1820x1 .i32) (harg8 : arg8.IsWhole) (arg9 : Memref sig .tc .vmem S10x1820 .bf16) (harg9 : arg9.IsWhole) (arg10 : Memref sig .tc .vmem S1820x10 .bf16) (harg10 : arg10.IsWhole) (arg11 : Memref sig .tc .vmem S2048x1 .i32) (harg11 : arg11.IsWhole) (arg12 : Memref sig .tc .vmem S240x1820 .bf16) (harg12 : arg12.IsWhole) (arg13 : Memref sig .tc .vmem S1820x132 .bf16) (harg13 : arg13.IsWhole) (hc0 : cond0_0 i)
    (x0 : Vec F S2048x240 .i32) (x1 : Vec F S10x9 .bf16) (x2 : Vec F S10x9 .bf16) (x3 : Vec F S10x132 .bf16) (x4 : Vec F S1x10 .f32) (x5 : Vec F S9x1820 .i32) (x6 : Vec F S9x132 .i32) (x7 : Vec F S1820x1 .i32) (x8 : Vec F S10x1820 .bf16) (x9 : Vec F S1820x10 .bf16) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = outBlock x0 (mat1 x1 x5 x8) (mat2 x2 x6 x7 x9) x3 x4 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A; dsimp only
  sl_unfold_words
  rw [View.canon_unit_zero off00]
  simp only [ View.readAt_eq_ld, harg1.read_unread, harg2.read_unread, harg3.read_unread, harg4.read_unread, harg5.read_unread, harg6.read_unread, harg7.read_unread, harg8.read_unread, harg9.read_unread, harg10.read_unread, View.ld_unit_zero (S := S2048x240) off00, View.ld_unit_zero (S := S240x1820) off00, View.ld_unit_zero (S := S1820x132) off00, View.ld_unit_zero (S := S10x132) off00, View.ld_unit_zero (S := S1x10) off00, View.ld_unit_zero (S := S10x9) off00, View.ld_unit_zero (S := S10x1820) off00, View.ld_unit_zero (S := S1820x10) off00, View.ld_unit_zero (S := S1820x1) off00]
  have s0 (w : FVec F S240x1820 .bf16) : arg12.view.readCov [(⟨Rect.unit ![0, 0] ![240, 1820] inb_S240x1820_S240x1820_0_0, w⟩ : View.Piece (Elt F) S240x1820 .bf16)]
      (Rect.unit ![0, 0] ![240, 1820] inb_S240x1820_S240x1820_0_0).toLoadRect = w := View.readCov_unit_zero (S := S240x1820) _ off00 _ _
  have s1 (w : FVec F S1820x132 .bf16) : arg13.view.readCov [(⟨Rect.unit ![0, 0] ![1820, 132] inb_S1820x132_S1820x132_0_0, w⟩ : View.Piece (Elt F) S1820x132 .bf16)]
      (Rect.unit ![0, 0] ![1820, 132] inb_S1820x132_S1820x132_0_0).toLoadRect = w := View.readCov_unit_zero (S := S1820x132) _ off00 _ _
  rw [s0, s1]
  have r10 : View.ld x5 (Rect.unit (s := S9x1820) ![0, 0] ![1, 1820] inb_S9x1820_S1x1820_0_0) = row1 x5 0 := load_row1 x5 0 inb_S9x1820_S1x1820_0_0
  have r11 : View.ld x5 (Rect.unit (s := S9x1820) ![1, 0] ![1, 1820] inb_S9x1820_S1x1820_1_0) = row1 x5 1 := load_row1 x5 1 inb_S9x1820_S1x1820_1_0
  have r12 : View.ld x5 (Rect.unit (s := S9x1820) ![2, 0] ![1, 1820] inb_S9x1820_S1x1820_2_0) = row1 x5 2 := load_row1 x5 2 inb_S9x1820_S1x1820_2_0
  have r13 : View.ld x5 (Rect.unit (s := S9x1820) ![3, 0] ![1, 1820] inb_S9x1820_S1x1820_3_0) = row1 x5 3 := load_row1 x5 3 inb_S9x1820_S1x1820_3_0
  have r14 : View.ld x5 (Rect.unit (s := S9x1820) ![4, 0] ![1, 1820] inb_S9x1820_S1x1820_4_0) = row1 x5 4 := load_row1 x5 4 inb_S9x1820_S1x1820_4_0
  have r15 : View.ld x5 (Rect.unit (s := S9x1820) ![5, 0] ![1, 1820] inb_S9x1820_S1x1820_5_0) = row1 x5 5 := load_row1 x5 5 inb_S9x1820_S1x1820_5_0
  have r16 : View.ld x5 (Rect.unit (s := S9x1820) ![6, 0] ![1, 1820] inb_S9x1820_S1x1820_6_0) = row1 x5 6 := load_row1 x5 6 inb_S9x1820_S1x1820_6_0
  have r17 : View.ld x5 (Rect.unit (s := S9x1820) ![7, 0] ![1, 1820] inb_S9x1820_S1x1820_7_0) = row1 x5 7 := load_row1 x5 7 inb_S9x1820_S1x1820_7_0
  have r18 : View.ld x5 (Rect.unit (s := S9x1820) ![8, 0] ![1, 1820] inb_S9x1820_S1x1820_8_0) = row1 x5 8 := load_row1 x5 8 inb_S9x1820_S1x1820_8_0
  have r20 : View.ld x6 (Rect.unit (s := S9x132) ![0, 0] ![1, 132] inb_S9x132_S1x132_0_0) = row2 x6 0 := load_row2 x6 0 inb_S9x132_S1x132_0_0
  have r21 : View.ld x6 (Rect.unit (s := S9x132) ![1, 0] ![1, 132] inb_S9x132_S1x132_1_0) = row2 x6 1 := load_row2 x6 1 inb_S9x132_S1x132_1_0
  have r22 : View.ld x6 (Rect.unit (s := S9x132) ![2, 0] ![1, 132] inb_S9x132_S1x132_2_0) = row2 x6 2 := load_row2 x6 2 inb_S9x132_S1x132_2_0
  have r23 : View.ld x6 (Rect.unit (s := S9x132) ![3, 0] ![1, 132] inb_S9x132_S1x132_3_0) = row2 x6 3 := load_row2 x6 3 inb_S9x132_S1x132_3_0
  have r24 : View.ld x6 (Rect.unit (s := S9x132) ![4, 0] ![1, 132] inb_S9x132_S1x132_4_0) = row2 x6 4 := load_row2 x6 4 inb_S9x132_S1x132_4_0
  have r25 : View.ld x6 (Rect.unit (s := S9x132) ![5, 0] ![1, 132] inb_S9x132_S1x132_5_0) = row2 x6 5 := load_row2 x6 5 inb_S9x132_S1x132_5_0
  have r26 : View.ld x6 (Rect.unit (s := S9x132) ![6, 0] ![1, 132] inb_S9x132_S1x132_6_0) = row2 x6 6 := load_row2 x6 6 inb_S9x132_S1x132_6_0
  have r27 : View.ld x6 (Rect.unit (s := S9x132) ![7, 0] ![1, 132] inb_S9x132_S1x132_7_0) = row2 x6 7 := load_row2 x6 7 inb_S9x132_S1x132_7_0
  have r28 : View.ld x6 (Rect.unit (s := S9x132) ![8, 0] ![1, 132] inb_S9x132_S1x132_8_0) = row2 x6 8 := load_row2 x6 8 inb_S9x132_S1x132_8_0
  rw [r10, r11, r12, r13, r14, r15, r16, r17, r18, r20, r21, r22, r23, r24, r25, r26, r27, r28]
  rfl

/-- At a later point the output block is computed from the matrices carried in scratch. -/
theorem out0_B_10_eq (c : Dev nD) (i : grid0.Coords) (arg1 : Memref sig .tc .vmem S2048x240 .i32) (harg1 : arg1.IsWhole) (arg2 : Memref sig .tc .vmem S10x9 .bf16) (harg2 : arg2.IsWhole) (arg3 : Memref sig .tc .vmem S10x9 .bf16) (harg3 : arg3.IsWhole) (arg4 : Memref sig .tc .vmem S10x132 .bf16) (harg4 : arg4.IsWhole) (arg5 : Memref sig .tc .vmem S1x10 .f32) (harg5 : arg5.IsWhole) (arg6 : Memref sig .tc .vmem S9x1820 .i32) (harg6 : arg6.IsWhole) (arg7 : Memref sig .tc .vmem S9x132 .i32) (harg7 : arg7.IsWhole) (arg8 : Memref sig .tc .vmem S1820x1 .i32) (harg8 : arg8.IsWhole) (arg9 : Memref sig .tc .vmem S10x1820 .bf16) (harg9 : arg9.IsWhole) (arg10 : Memref sig .tc .vmem S1820x10 .bf16) (harg10 : arg10.IsWhole) (arg11 : Memref sig .tc .vmem S2048x1 .i32) (harg11 : arg11.IsWhole) (arg12 : Memref sig .tc .vmem S240x1820 .bf16) (harg12 : arg12.IsWhole) (arg13 : Memref sig .tc .vmem S1820x132 .bf16) (harg13 : arg13.IsWhole) (hc0 : ¬cond0_0 i)
    (x0 : Vec F S2048x240 .i32) (x1 : Vec F S10x9 .bf16) (x2 : Vec F S10x9 .bf16) (x3 : Vec F S10x132 .bf16) (x4 : Vec F S1x10 .f32) (x5 : Vec F S9x1820 .i32) (x6 : Vec F S9x132 .i32) (x7 : Vec F S1820x1 .i32) (x8 : Vec F S10x1820 .bf16) (x9 : Vec F S1820x10 .bf16) (xs0 : Vec F S240x1820 .bf16) (xs1 : Vec F S1820x132 .bf16) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 xs1 = outBlock x0 xs0 xs1 x3 x4 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 xs1)]
  unfold kernelRun0_B; dsimp only
  sl_unfold_words
  rw [View.canon_unit_zero off00]
  simp only [View.readAt_eq_ld, harg1.read_unread, harg2.read_unread, harg3.read_unread, harg4.read_unread, harg5.read_unread, harg6.read_unread, harg7.read_unread, harg8.read_unread, harg9.read_unread, harg10.read_unread, harg12.read_unread, harg13.read_unread, View.ld_unit_zero (S := S2048x240) off00, View.ld_unit_zero (S := S240x1820) off00, View.ld_unit_zero (S := S1820x132) off00, View.ld_unit_zero (S := S10x132) off00, View.ld_unit_zero (S := S1x10) off00, View.ld_unit_zero (S := S10x9) off00, View.ld_unit_zero (S := S10x1820) off00, View.ld_unit_zero (S := S1820x10) off00, View.ld_unit_zero (S := S1820x1) off00]
  rfl

end Cert.KernelIdeal.Body

end
-- ==== Proof.Blocks.lean ====
module

public import proofs.«01_k».proof.Proof.Body
public import proofs.«01_k».proof.Proof.Gen.KernelIdeal.Value
public import Idealize.ShloMosaic.Lib.StableHlo.ReadAt

/-! The blocks the body reads, as the host's arrays; the state after each grid point; the kernel's result at an index. -/

@[expose] public section

set_option maxRecDepth 16384

noncomputable section

namespace Cert.KernelIdeal.Blocks

open Idealize.ShloMosaic Idealize.ShloMosaic.TcCoe Idealize.ShloMosaic.Tactic Cert.KernelIdeal Cert.KernelIdeal.Gen Cert.KernelIdeal.Body

variable {F : FTy → Type} [FloatOps F] (m : (ℓ : Loc nD τ sig) → Buf (Elt F) ℓ)

/-- Window 1 hands the body its whole array at every point. -/
theorem block1 (c : Dev nD) (t : Fin cfg0.N) : iblk m c 1 t = V m c main_v2 := by
  funext j
  unfold iblk
  rw [View.read_apply]
  show V m c main_v2 _ = V m c main_v2 _
  congr 1
  funext a
  apply Fin.ext
  match a with
  | ⟨0, _⟩ => show 0 * 10 + 1 * (j 0).val = (j 0).val; omega
  | ⟨1, _⟩ => show 0 * 9 + 1 * (j 1).val = (j 1).val; omega

/-- Window 2 hands the body its whole array at every point. -/
theorem block2 (c : Dev nD) (t : Fin cfg0.N) : iblk m c 2 t = V m c main_v4 := by
  funext j
  unfold iblk
  rw [View.read_apply]
  show V m c main_v4 _ = V m c main_v4 _
  congr 1
  funext a
  apply Fin.ext
  match a with
  | ⟨0, _⟩ => show 0 * 10 + 1 * (j 0).val = (j 0).val; omega
  | ⟨1, _⟩ => show 0 * 9 + 1 * (j 1).val = (j 1).val; omega

/-- Window 3 hands the body its whole array at every point. -/
theorem block3 (c : Dev nD) (t : Fin cfg0.N) : iblk m c 3 t = V m c main_v5 := by
  funext j
  unfold iblk
  rw [View.read_apply]
  show V m c main_v5 _ = V m c main_v5 _
  congr 1
  funext a
  apply Fin.ext
  match a with
  | ⟨0, _⟩ => show 0 * 10 + 1 * (j 0).val = (j 0).val; omega
  | ⟨1, _⟩ => show 0 * 132 + 1 * (j 1).val = (j 1).val; omega

/-- Window 4 hands the body its whole array at every point. -/
theorem block4 (c : Dev nD) (t : Fin cfg0.N) : iblk m c 4 t = V m c main_v6 := by
  funext j
  unfold iblk
  rw [View.read_apply]
  show V m c main_v6 _ = V m c main_v6 _
  congr 1
  funext a
  apply Fin.ext
  match a with
  | ⟨0, _⟩ => show 0 * 1 + 1 * (j 0).val = (j 0).val; omega
  | ⟨1, _⟩ => show 0 * 10 + 1 * (j 1).val = (j 1).val; omega

/-- Window 5 hands the body its whole array at every point. -/
theorem block5 (c : Dev nD) (t : Fin cfg0.N) : iblk m c 5 t = V m c main_c := by
  funext j
  unfold iblk
  rw [View.read_apply]
  show V m c main_c _ = V m c main_c _
  congr 1
  funext a
  apply Fin.ext
  match a with
  | ⟨0, _⟩ => show 0 * 9 + 1 * (j 0).val = (j 0).val; omega
  | ⟨1, _⟩ => show 0 * 1820 + 1 * (j 1).val = (j 1).val; omega

/-- Window 6 hands the body its whole array at every point. -/
theorem block6 (c : Dev nD) (t : Fin cfg0.N) : iblk m c 6 t = V m c main_c_0 := by
  funext j
  unfold iblk
  rw [View.read_apply]
  show V m c main_c_0 _ = V m c main_c_0 _
  congr 1
  funext a
  apply Fin.ext
  match a with
  | ⟨0, _⟩ => show 0 * 9 + 1 * (j 0).val = (j 0).val; omega
  | ⟨1, _⟩ => show 0 * 132 + 1 * (j 1).val = (j 1).val; omega

/-- Window 7 hands the body its whole array at every point. -/
theorem block7 (c : Dev nD) (t : Fin cfg0.N) : iblk m c 7 t = V m c main_c_1 := by
  funext j
  unfold iblk
  rw [View.read_apply]
  show V m c main_c_1 _ = V m c main_c_1 _
  congr 1
  funext a
  apply Fin.ext
  match a with
  | ⟨0, _⟩ => show 0 * 1820 + 1 * (j 0).val = (j 0).val; omega
  | ⟨1, _⟩ => show 0 * 1 + 1 * (j 1).val = (j 1).val; omega

/-- Window 8 hands the body its whole array at every point. -/
theorem block8 (c : Dev nD) (t : Fin cfg0.N) : iblk m c 8 t = V m c main_cst := by
  funext j
  unfold iblk
  rw [View.read_apply]
  show V m c main_cst _ = V m c main_cst _
  congr 1
  funext a
  apply Fin.ext
  match a with
  | ⟨0, _⟩ => show 0 * 10 + 1 * (j 0).val = (j 0).val; omega
  | ⟨1, _⟩ => show 0 * 1820 + 1 * (j 1).val = (j 1).val; omega

/-- Window 9 hands the body its whole array at every point. -/
theorem block9 (c : Dev nD) (t : Fin cfg0.N) : iblk m c 9 t = V m c main_cst_2 := by
  funext j
  unfold iblk
  rw [View.read_apply]
  show V m c main_cst_2 _ = V m c main_cst_2 _
  congr 1
  funext a
  apply Fin.ext
  match a with
  | ⟨0, _⟩ => show 0 * 1820 + 1 * (j 0).val = (j 0).val; omega
  | ⟨1, _⟩ => show 0 * 10 + 1 * (j 1).val = (j 1).val; omega

/-- Window 0 hands the body rows `2048 t` to `2048 t + 2047` of its array. -/
theorem block0 (c : Dev nD) (t : Fin cfg0.N) (n : Fin 2048) (k : Fin 240) (h : 2048 * t.val + n.val < 16384) :
    (iblk m c 0 t : Vec F S2048x240 .i32) (ix2 n k) = (V m c main_v0 : IVec S16384x240 32) (ix2 ⟨2048 * t.val + n.val, h⟩ k) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_v0 _ = V m c main_v0 _
  congr 1
  funext a
  apply Fin.ext
  match a with
  | ⟨0, _⟩ => show win0_0.index t 0 * 2048 + 1 * n.val = 2048 * t.val + n.val; rw [hi.1]; omega
  | ⟨1, _⟩ => show win0_0.index t 1 * 240 + 1 * k.val = k.val; rw [hi.2]; omega

/-- The first-layer matrix of the run. -/
def M1 (c : Dev nD) : FVec F S240x1820 .bf16 := mat1 (V m c main_v2) (V m c main_c) (V m c main_cst)

/-- The second-layer matrix of the run. -/
def M2 (c : Dev nD) : FVec F S1820x132 .bf16 := mat2 (V m c main_v4) (V m c main_c_0) (V m c main_c_1) (V m c main_cst_2)

/-- After every point: the output block of that point's input block, and the two matrices in scratch. -/
theorem after_point (c : Dev nD) (n : ℕ) (h : n < cfg0.N) :
    outsAt0 m c n h = (outBlock (iblk m c 0 ⟨n, h⟩) (M1 m c) (M2 m c) (V m c main_v5) (V m c main_v6), M1 m c, M2 m c) := by
  induction n with
  | zero =>
    rw [outsAt0_A m c ⟨0, h⟩ (Nat.zero_mod _), sout0_A_0_eq, sout0_A_1_eq, out0_A_10_eq]
    simp only [block1, block2, block3, block4, block5, block6, block7, block8, block9]
    rfl
  | succ n ih =>
    have hN : n + 1 < 8 := h
    rw [outsAt0_B m c ⟨n + 1, h⟩ (by show ¬ (n + 1) % 8 = 0; omega), out0_B_10_eq]
    simp only [Nat.add_sub_cancel, ih]
    simp only [block3, block4]
    rfl

/-- The kernel's result at row `r`. -/
theorem result_row (c : Dev nD) (t : Fin 8) (n : Fin 2048) (h : 2048 * t.val + n.val < 16384) :
    (Value.G10 m c : IVec S16384x1 32) (ix2 ⟨2048 * t.val + n.val, h⟩ 0)
      = outBlock (iblk m c 0 t) (M1 m c) (M2 m c) (V m c main_v5) (V m c main_v6) (ix2 n 0) := by
  have hp : Value.pt10Of (ix2 (⟨2048 * t.val + n.val, h⟩ : Fin 16384) (0 : Fin 1)) = t.val := by
    show 1 * ((2048 * t.val + n.val) / 2048 - 0) + 1 * (0 / 1 - 0) = t.val
    omega
  have hl : Value.loc10Of (ix2 (⟨2048 * t.val + n.val, h⟩ : Fin 16384) (0 : Fin 1)) = ix2 n 0 := by
    funext a; apply Fin.ext
    match a with
    | ⟨0, _⟩ => show (2048 * t.val + n.val) % 2048 = n.val; omega
    | ⟨1, _⟩ => rfl
  have ht : t.val < cfg0.N := t.isLt
  unfold Value.G10
  rw [dif_pos (by rw [hp]; exact ht), hl, Value.fold0_congr m c _ _ _ (by rw [Nat.zero_add]; exact ht) hp, ← Value.outsAt0_sweep m c t.val ht]
  exact congrFun (congrArg Prod.fst (after_point m c t.val ht)) (ix2 n 0)

end Cert.KernelIdeal.Blocks

end
-- ==== Proof.Ints.lean ====
module

public import Idealize.ShloMosaic.PureOps.Ideal
public import Idealize.ShloMosaic.Lib.IdealHost

/-! Integer arithmetic inside the extended reals: sums of products of integers, and one layer's truncation. -/

@[expose] public section

noncomputable section

namespace Cert.Ints

open Idealize.ShloMosaic

/-- An integer as an extended real. -/
def up (z : ℤ) : EReal := (((z : ℤ) : ℝ) : EReal)

/-- A layer's truncation on integers: the negative part dropped, the low eight bits kept. -/
def low8 (z : ℤ) : ℤ := max z 0 % 256

/-- A layer's truncation as the kernel computes it on extended reals. -/
def low8E (r : EReal) : EReal :=
  max r 0 - Ideal.ofBits FTy.f32 1132462080#32 * Ideal.liftRound Int.floor (max r 0 * Ideal.ofBits FTy.f32 998244352#32)

/-- Zero is the integer zero. -/
theorem up_zero : up 0 = 0 := by simp [up]

/-- One is the integer one. -/
theorem up_one : up 1 = 1 := by simp [up]

/-- A product of integers, taken in the extended reals. -/
theorem up_mul (a b : ℤ) : up a * up b = up (a * b) := by
  unfold up; rw [← EReal.coe_mul]; norm_cast

/-- A sum of two integers, taken in the extended reals. -/
theorem up_add (a b : ℤ) : up a + up b = up (a + b) := by
  unfold up; rw [← EReal.coe_add]; norm_cast

/-- A finite sum of integers, taken in the extended reals. -/
theorem up_sum {ι : Type} (s : Finset ι) (f : ι → ℤ) : ∑ i ∈ s, up (f i) = up (∑ i ∈ s, f i) := by
  classical
  induction s using Finset.induction_on with
  | empty => simp [up_zero]
  | insert a s ha ih => rw [Finset.sum_insert ha, Finset.sum_insert ha, ih, up_add]

/-- The kernel's divisor pattern is 1/256. -/
theorem pat_inv : Ideal.ofBits FTy.f32 998244352#32 = ((1 / 256 : ℝ) : EReal) := by
  simp [Ideal.ofBits, Ideal.ieee, -EReal.coe_mul]; norm_num

/-- The kernel's multiplier pattern is 256. -/
theorem pat_256 : Ideal.ofBits FTy.f32 1132462080#32 = ((256 : ℝ) : EReal) := by
  simp [Ideal.ofBits, Ideal.ieee, -EReal.coe_mul]; norm_num

/-- The floor of an integer over 256, as an integer quotient. -/
theorem floor_div (z : ℤ) : ⌊(z : ℝ) * (1 / 256)⌋ = z / 256 := by
  rw [Int.floor_eq_iff]
  have h := Int.emod_add_mul_ediv z 256
  have h0 : ((z % 256 : ℤ) : ℝ) + 256 * ((z / 256 : ℤ) : ℝ) = (z : ℝ) := by exact_mod_cast h
  have h1 : (0 : ℝ) ≤ ((z % 256 : ℤ) : ℝ) := by exact_mod_cast (by omega : 0 ≤ z % 256)
  have h2 : ((z % 256 : ℤ) : ℝ) < 256 := by exact_mod_cast (by omega : z % 256 < 256)
  constructor <;> linarith

/-- On an integer the kernel's truncation is the integer truncation. -/
theorem low8E_up (z : ℤ) : low8E (up z) = up (low8 z) := by
  have hm : max (up z) 0 = up (max z 0) := by
    rw [← up_zero]
    rcases le_total z 0 with h | h
    · rw [max_eq_right h, max_eq_right]; unfold up; exact_mod_cast h
    · rw [max_eq_left h, max_eq_left]; unfold up; exact_mod_cast h
  unfold low8E low8
  rw [hm, pat_inv, pat_256]
  unfold up
  rw [← EReal.coe_mul, Ideal.liftRound_coe, floor_div, ← EReal.coe_mul, ← EReal.coe_sub]
  congr 1
  have h := Int.emod_add_mul_ediv (max z 0) 256
  have : ((max z 0 % 256 : ℤ) : ℝ) + 256 * ((max z 0 / 256 : ℤ) : ℝ) = ((max z 0 : ℤ) : ℝ) := by exact_mod_cast h
  linarith

/-- A truncated integer is nonnegative. -/
theorem low8_nonneg (z : ℤ) : 0 ≤ low8 z := by unfold low8; omega

/-- A truncated integer is below 256. -/
theorem low8_lt (z : ℤ) : low8 z < 256 := by unfold low8; omega

/-- A signed word read as an extended real. -/
theorem sitofp_up {φ : FTy} {w : Nat} (b : BitVec w) : FloatOps.sitofp (F := Ideal) φ b = up b.toInt := rfl

/-- A truncated integer converted to a word is that integer's word. -/
theorem fptosi_up (z : ℤ) : FloatOps.fptosi (F := Ideal) (φ := .f32) 32 (up (low8 z)) = BitVec.ofInt 32 (low8 z) := by
  have h0 := low8_nonneg z
  have h1 := low8_lt z
  show Ideal.fptosi 32 (((low8 z : ℤ) : ℝ) : EReal) = _
  generalize low8 z = y at *
  have hy : (0 : ℝ) ≤ ((y : ℤ) : ℝ) := by exact_mod_cast h0
  rw [Ideal.fptosi, Ideal.toIntClamped_coe, if_pos hy, Int.floor_intCast]
  congr 1
  norm_num
  omega

end Cert.Ints

end
-- ==== Proof.Tables.lean ====
module

public import proofs.«01_k».proof.KernelIdeal

/-! The literal tables of the kernel in closed form, each checked entry by entry by evaluation. -/

@[expose] public section

set_option maxRecDepth 16384

noncomputable section

namespace Cert.KernelIdeal.Tables

open Idealize.ShloMosaic Cert.KernelIdeal

/-- Tap `t` of the first layer's output position `q` reads flat image position `tap1 t q`. -/
abbrev tap1 (t q : ℕ) : ℕ := (q / 14 + t / 3) * 16 + (q % 14 + t % 3)

/-- Tap `t` of the second layer's output position `p` reads position `tap2 t p` of a first-layer plane. -/
abbrev tap2 (t p : ℕ) : ℕ := (p / 12 + t / 3) * 14 + (p % 12 + t % 3)

/-- The first tap table repeats the positions for the ten output channels. -/
theorem entry_lit0 : ∀ t < 9, ∀ o < 10, ∀ q < 182, lit0t (t * 1820 + (o * 182 + q)) = BitVec.ofNat 32 (tap1 t q) := by
  decide +kernel

/-- The second tap table. -/
theorem entry_lit1 : ∀ t < 9, ∀ p < 132, lit1t (t * 132 + p) = BitVec.ofNat 32 (tap2 t p) := by
  decide +kernel

/-- The position of a flat first-layer index within its plane. -/
theorem entry_lit2 : ∀ o < 10, ∀ q < 182, lit2t (o * 182 + q) = BitVec.ofNat 32 q := by
  decide +kernel

/-- The plane indicator, planes down the rows. -/
theorem entry_lit3 : ∀ o < 10, ∀ o' < 10, ∀ q < 182, lit3t (o * 1820 + (o' * 182 + q)) = if o = o' then 0x3F80#16 else 0#16 := by
  decide +kernel

/-- The plane indicator, planes across the columns. -/
theorem entry_lit4 : ∀ o' < 10, ∀ q < 182, ∀ o < 10, lit4t ((o' * 182 + q) * 10 + o) = if o = o' then 0x3F80#16 else 0#16 := by
  decide +kernel

end Cert.KernelIdeal.Tables

end
-- ==== Proof.Inputs.lean ====
module

public import proofs.«01_k».proof.Proof.Ints
public import proofs.«01_k».proof.Proof.Tables
public import proofs.«01_k».proof.Proof.Gen.KernelIdeal.Value
public import Idealize.ShloMosaic.Lib.StableHlo.ReadAt

/-! What the host hands the kernel, at an index: the reshaped arguments as exact integers and the literal tables in closed form. -/

@[expose] public section

set_option maxRecDepth 16384

noncomputable section

namespace Cert.KernelIdeal.Inputs

open Idealize.ShloMosaic Idealize.ShloMosaic.TcCoe Idealize.ShloMosaic.Tactic Cert.KernelIdeal Cert.KernelIdeal.Gen Cert.Ints Cert.KernelIdeal.Tables

variable (m : (ℓ : Loc nD τ sig) → Buf (Elt Ideal) ℓ)

/-- A flag word of the indicator reads as one or zero. -/
theorem ofBits_ite (P : Prop) [Decidable P] :
    Ideal.ofBits .bf16 (if P then 0x3F80#16 else 0#16) = up (if P then 1 else 0) := by
  split
  · exact Ideal.ofBits_one_bf16.trans up_one.symm
  · exact Ideal.ofBits_zero_bf16.trans up_zero.symm

/-- A row of the kernel's input is an image read row by row. -/
theorem x_at (c : Dev nD) (n : Fin 16384) (k : Fin 240) : (V m c main_v0 : IVec S16384x240 32) (ix2 n k) = (m (c.tc.loc main_arg0) : IVec S16384x1x15x16 32) (ix4 n 0 ⟨k.val / 16, by omega⟩ ⟨k.val % 16, by omega⟩) := by
  unfold V
  after_reads_at

/-- The weights of layer 1, a row of nine taps per channel. -/
theorem w1_at (c : Dev nD) (o : Fin 10) (t : Fin 9) : (V m c main_v2 : FVec Ideal S10x9 .bf16) (ix2 o t) = up ((m (c.tc.loc main_arg1) : IVec S10x1x3x3 32) (ix4 o 0 ⟨t.val / 3, by omega⟩ ⟨t.val % 3, by omega⟩)).toInt := by
  unfold V
  after_reads_at
  exact sitofp_up _

/-- The weights of layer 2, a row of nine taps per channel. -/
theorem w2_at (c : Dev nD) (o : Fin 10) (t : Fin 9) : (V m c main_v4 : FVec Ideal S10x9 .bf16) (ix2 o t) = up ((m (c.tc.loc main_arg3) : IVec S1x10x3x3 32) (ix4 0 o ⟨t.val / 3, by omega⟩ ⟨t.val % 3, by omega⟩)).toInt := by
  unfold V
  after_reads_at
  exact sitofp_up _

/-- The weights of the first fully connected layer. -/
theorem wf1_at (c : Dev nD) (o : Fin 10) (p : Fin 132) : (V m c main_v5 : FVec Ideal S10x132 .bf16) (ix2 o p) = up ((m (c.tc.loc main_arg5) : IVec S10x132 32) (ix2 o p)).toInt := by
  unfold V
  after_reads_at
  exact sitofp_up _

/-- The weights of the second fully connected layer. -/
theorem wf2_at (c : Dev nD) (o : Fin 10) : (V m c main_v6 : FVec Ideal S1x10 .f32) (ix2 0 o) = up ((m (c.tc.loc main_arg7) : IVec S1x10 32) (ix2 0 o)).toInt := by
  unfold V
  after_reads_at
  exact sitofp_up _

/-- The first tap table. -/
theorem t1_at (c : Dev nD) (t : Fin 9) (k : Fin 1820) : (V m c main_c : IVec S9x1820 32) (ix2 t k) = BitVec.ofNat 32 (tap1 t.val (k.val % 182)) := by
  unfold V
  after_reads_at
  have hr : (S9x1820.rowMajor (ix2 t k)).val = t.val * 1820 + (k.val / 182 * 182 + k.val % 182) := by
    have h := Shape.rowMajor_val_two (d := ![9, 1820]) (ix2 t k)
    have h' : (S9x1820.rowMajor (ix2 t k)).val = t.val * 1820 + k.val := h
    omega
  show lit0t (S9x1820.rowMajor (ix2 t k)).val = _
  rw [hr, entry_lit0 t.val t.isLt (k.val / 182) (by omega) (k.val % 182) (by omega)]

/-- The second tap table. -/
theorem t2_at (c : Dev nD) (t : Fin 9) (p : Fin 132) : (V m c main_c_0 : IVec S9x132 32) (ix2 t p) = BitVec.ofNat 32 (tap2 t.val p.val) := by
  unfold V
  after_reads_at
  have hr : (S9x132.rowMajor (ix2 t p)).val = t.val * 132 + p.val := by
    have h := Shape.rowMajor_val_two (d := ![9, 132]) (ix2 t p)
    have h' : (S9x132.rowMajor (ix2 t p)).val = t.val * 132 + p.val := h
    omega
  show lit1t (S9x132.rowMajor (ix2 t p)).val = _
  rw [hr, entry_lit1 t.val t.isLt p.val p.isLt]

/-- The positions within a plane. -/
theorem pin_at (c : Dev nD) (k : Fin 1820) : (V m c main_c_1 : IVec S1820x1 32) (ix2 k 0) = BitVec.ofNat 32 (k.val % 182) := by
  unfold V
  after_reads_at
  have hr : (S1820x1.rowMajor (ix2 k (0 : Fin 1))).val = k.val / 182 * 182 + k.val % 182 := by
    have h := Shape.rowMajor_val_two (d := ![1820, 1]) (ix2 k (0 : Fin 1))
    have h' : (S1820x1.rowMajor (ix2 k (0 : Fin 1))).val = k.val * 1 + (0 : Fin 1).val := h
    omega
  show lit2t (S1820x1.rowMajor (ix2 k (0 : Fin 1))).val = _
  rw [hr, entry_lit2 (k.val / 182) (by omega) (k.val % 182) (by omega)]

/-- The plane indicator, planes down the rows. -/
theorem e1_at (c : Dev nD) (o : Fin 10) (k : Fin 1820) : (V m c main_cst : FVec Ideal S10x1820 .bf16) (ix2 o k) = up (if o.val = k.val / 182 then 1 else 0) := by
  unfold V
  after_reads_at
  have hr : (S10x1820.rowMajor (ix2 o k)).val = o.val * 1820 + (k.val / 182 * 182 + k.val % 182) := by
    have h := Shape.rowMajor_val_two (d := ![10, 1820]) (ix2 o k)
    have h' : (S10x1820.rowMajor (ix2 o k)).val = o.val * 1820 + k.val := h
    omega
  show Ideal.ofBits .bf16 (lit3t (S10x1820.rowMajor (ix2 o k)).val) = _
  rw [hr, entry_lit3 o.val o.isLt (k.val / 182) (by omega) (k.val % 182) (by omega), ofBits_ite]

/-- The plane indicator, planes across the columns. -/
theorem e2_at (c : Dev nD) (o : Fin 10) (k : Fin 1820) : (V m c main_cst_2 : FVec Ideal S1820x10 .bf16) (ix2 k o) = up (if o.val = k.val / 182 then 1 else 0) := by
  unfold V
  after_reads_at
  have hr : (S1820x10.rowMajor (ix2 k o)).val = (k.val / 182 * 182 + k.val % 182) * 10 + o.val := by
    have h := Shape.rowMajor_val_two (d := ![1820, 10]) (ix2 k o)
    have h' : (S1820x10.rowMajor (ix2 k o)).val = k.val * 10 + o.val := h
    omega
  show Ideal.ofBits .bf16 (lit4t (S1820x10.rowMajor (ix2 k o)).val) = _
  rw [hr, entry_lit4 (k.val / 182) (by omega) (k.val % 182) (by omega) o.val o.isLt, ofBits_ite]

end Cert.KernelIdeal.Inputs

end
-- ==== Proof.Model.lean ====
module

public import proofs.«01_k».proof.Proof.Ints
public import proofs.«01_k».proof.Proof.Tables

/-! The network over exact integers, and the rearrangement of a sparse tap matrix's products into sums over the taps. -/

@[expose] public section

noncomputable section

namespace Cert.Model

open Cert.Ints Cert.KernelIdeal.Tables

/-- Tap positions of the first layer stay within the image. -/
theorem tap1_lt (t : Fin 9) (q : ℕ) (hq : q < 182) : tap1 t.val q < 240 := by
  have := t.isLt
  unfold tap1
  omega

/-- Tap positions of the second layer stay within a plane. -/
theorem tap2_lt (t : Fin 9) (p : ℕ) (hp : p < 132) : tap2 t.val p < 182 := by
  have := t.isLt
  unfold tap2
  omega

/-- First layer at flat output index `c`: nine products, truncated. -/
def conv1 (x : Fin 240 → ℤ) (w : Fin 10 → Fin 9 → ℤ) (c : Fin 1820) : ℤ :=
  low8 (∑ t : Fin 9, x ⟨tap1 t.val (c.val % 182), tap1_lt t _ (Nat.mod_lt _ (by decide))⟩ * w ⟨c.val / 182, by omega⟩ t)

/-- Second layer at output position `p`: nine products per channel, truncated. -/
def conv2 (a : Fin 1820 → ℤ) (w : Fin 10 → Fin 9 → ℤ) (p : Fin 132) : ℤ :=
  low8 (∑ t : Fin 9, ∑ o : Fin 10, a ⟨o.val * 182 + tap2 t.val p.val, by have := tap2_lt t p.val p.isLt; omega⟩ * w o t)

/-- Third layer. -/
def fc1 (b : Fin 132 → ℤ) (w : Fin 10 → Fin 132 → ℤ) (j : Fin 10) : ℤ := low8 (∑ p, b p * w j p)

/-- Fourth layer. -/
def fc2 (h : Fin 10 → ℤ) (w : Fin 10 → ℤ) : ℤ := low8 (∑ j, h j * w j)

/-- The whole network on one image. -/
def net (x : Fin 240 → ℤ) (w1 w2 : Fin 10 → Fin 9 → ℤ) (f : Fin 10 → Fin 132 → ℤ) (g : Fin 10 → ℤ) : ℤ :=
  fc2 (fc1 (conv2 (conv1 x w1) w2) f) g

/-- Of distinct tap positions one equal to `k` picks its weight. -/
theorem sum_pick (T : Fin 9 → ℕ) (hT : Function.Injective T) (w : Fin 9 → ℤ) (k : ℕ) (t : Fin 9) (h : k = T t) :
    (∑ s, if T s = k then w s else 0) = w t := by
  rw [Finset.sum_eq_single t]
  · rw [if_pos h.symm]
  · intro s _ hs
    rw [if_neg (fun hk => hs (hT (hk.trans h)))]
  · intro ht; exact absurd (Finset.mem_univ t) ht

/-- Nine guarded overwrites at distinct positions are a sum over the taps. -/
theorem overwrites (T : Fin 9 → ℕ) (hT : Function.Injective T) (w : Fin 9 → ℤ) (k : ℕ) :
    (if k = T 8 then w 8 else if k = T 7 then w 7 else if k = T 6 then w 6 else if k = T 5 then w 5 else if k = T 4 then w 4
      else if k = T 3 then w 3 else if k = T 2 then w 2 else if k = T 1 then w 1 else if k = T 0 then w 0 else 0)
      = ∑ t, if T t = k then w t else 0 := by
  split_ifs with h8 h7 h6 h5 h4 h3 h2 h1 h0
  · exact (sum_pick T hT w k 8 h8).symm
  · exact (sum_pick T hT w k 7 h7).symm
  · exact (sum_pick T hT w k 6 h6).symm
  · exact (sum_pick T hT w k 5 h5).symm
  · exact (sum_pick T hT w k 4 h4).symm
  · exact (sum_pick T hT w k 3 h3).symm
  · exact (sum_pick T hT w k 2 h2).symm
  · exact (sum_pick T hT w k 1 h1).symm
  · exact (sum_pick T hT w k 0 h0).symm
  · refine (Finset.sum_eq_zero fun t _ => if_neg fun h => ?_).symm
    match t with
    | ⟨0, _⟩ => exact h0 h.symm
    | ⟨1, _⟩ => exact h1 h.symm
    | ⟨2, _⟩ => exact h2 h.symm
    | ⟨3, _⟩ => exact h3 h.symm
    | ⟨4, _⟩ => exact h4 h.symm
    | ⟨5, _⟩ => exact h5 h.symm
    | ⟨6, _⟩ => exact h6 h.symm
    | ⟨7, _⟩ => exact h7 h.symm
    | ⟨8, _⟩ => exact h8 h.symm

/-- The first layer's taps are distinct. -/
theorem tap1_inj (q : ℕ) : Function.Injective fun t : Fin 9 => tap1 t.val q := by
  intro s t h
  have := s.isLt
  have := t.isLt
  apply Fin.ext
  simp only [tap1] at h
  omega

/-- The second layer's taps are distinct. -/
theorem tap2_inj (p : ℕ) : Function.Injective fun t : Fin 9 => tap2 t.val p := by
  intro s t h
  have := s.isLt
  have := t.isLt
  apply Fin.ext
  simp only [tap2] at h
  omega

/-- A row times a sparse tap column is a sum over the taps. -/
theorem taps_sum {n : ℕ} (X : Fin n → ℤ) (T : Fin 9 → ℕ) (hT : ∀ t, T t < n) (w : Fin 9 → ℤ) :
    ∑ k : Fin n, X k * (∑ t, if T t = k.val then w t else 0) = ∑ t, X ⟨T t, hT t⟩ * w t := by
  simp only [Finset.mul_sum]
  rw [Finset.sum_comm]
  refine Finset.sum_congr rfl fun t _ => ?_
  rw [Finset.sum_eq_single ⟨T t, hT t⟩]
  · rw [if_pos rfl]
  · intro k _ hk
    rw [if_neg (fun h => hk (Fin.ext h.symm)), mul_zero]
  · intro h; exact absurd (Finset.mem_univ _) h

/-- A sum over the flat first-layer index is a sum over planes and positions. -/
theorem sum_planes (f : Fin 1820 → ℤ) :
    ∑ c, f c = ∑ o : Fin 10, ∑ q : Fin 182, f ⟨o.val * 182 + q.val, by omega⟩ := by
  rw [← Fintype.sum_prod_type' (f := fun (o : Fin 10) (q : Fin 182) => f ⟨o.val * 182 + q.val, by omega⟩)]
  refine (Fintype.sum_equiv (finProdFinEquiv (m := 10) (n := 182)) _ _ fun x => ?_).symm
  congr 1
  apply Fin.ext
  show x.1.val * 182 + x.2.val = x.2.val + 182 * x.1.val
  omega

/-- The first layer as a product with the tap matrix. -/
theorem conv1_matrix (x : Fin 240 → ℤ) (w : Fin 10 → Fin 9 → ℤ) (c : Fin 1820) :
    low8 (∑ k : Fin 240, x k * (∑ t : Fin 9, if tap1 t.val (c.val % 182) = k.val then w ⟨c.val / 182, by omega⟩ t else 0)) = conv1 x w c := by
  unfold conv1
  rw [taps_sum x (fun t => tap1 t.val (c.val % 182)) (fun t => tap1_lt t _ (Nat.mod_lt _ (by decide)))]

/-- The second layer as a product with the tap matrix. -/
theorem conv2_matrix (a : Fin 1820 → ℤ) (w : Fin 10 → Fin 9 → ℤ) (p : Fin 132) :
    low8 (∑ c : Fin 1820, a c * (∑ t : Fin 9, if tap2 t.val p.val = c.val % 182 then w ⟨c.val / 182, by omega⟩ t else 0)) = conv2 a w p := by
  unfold conv2
  congr 1
  rw [sum_planes, Finset.sum_comm (s := (Finset.univ : Finset (Fin 9)))]
  refine Finset.sum_congr rfl fun o _ => ?_
  rw [← taps_sum (fun q : Fin 182 => a ⟨o.val * 182 + q.val, by omega⟩) (fun t => tap2 t.val p.val) (fun t => tap2_lt t _ p.isLt)]
  refine Finset.sum_congr rfl fun q _ => ?_
  congr 1
  refine Finset.sum_congr rfl fun t _ => ?_
  have h1 : (o.val * 182 + q.val) % 182 = q.val := by omega
  have h2 : (⟨(o.val * 182 + q.val) / 182, by omega⟩ : Fin 10) = o := Fin.ext (by show (o.val * 182 + q.val) / 182 = o.val; omega)
  simp only [h1, h2]

end Cert.Model

end
-- ==== Proof.Layers.lean ====
module

public import proofs.«01_k».proof.Proof.Model
public import proofs.«01_k».proof.Proof.Body
public import Idealize.ShloMosaic.Lib.Pointwise

/-! The body's matrices and its output block at an index, over exact integers. -/

@[expose] public section

set_option maxRecDepth 16384

noncomputable section

namespace Cert.KernelIdeal.Layers

open Idealize.ShloMosaic Idealize.ShloMosaic.TcCoe Idealize.ShloMosaic.Tactic Cert.KernelIdeal Cert.KernelIdeal.Gen Cert.KernelIdeal.Body Cert.Ints Cert.Model Cert.KernelIdeal.Tables

/-- A tap's weight, spread over the flat output index by the plane indicator, is its plane's weight. -/
theorem spread1 (w : FVec Ideal S10x9 .bf16) (e : FVec Ideal S10x1820 .bf16) (W : Fin 10 → Fin 9 → ℤ)
    (hw : ∀ o t, w (ix2 o t) = up (W o t)) (he : ∀ o (k : Fin 1820), e (ix2 o k) = up (if o.val = k.val / 182 then 1 else 0))
    (t : Fin 9) (c : Fin 1820) : k0_pay2 (F := Ideal) w e (ix2 t c) = up (W ⟨c.val / 182, by omega⟩ t) := by
  pointwise [k0_pay2]
  simp only [hw, he, up_mul, up_sum]
  congr 1
  rw [Finset.sum_eq_single ⟨c.val / 182, by omega⟩]
  · rw [if_pos rfl, mul_one]
  · intro o _ ho
    rw [if_neg (fun h => ho (Fin.ext h)), mul_zero]
  · intro h; exact absurd (Finset.mem_univ _) h

/-- The same with planes across the columns. -/
theorem spread2 (w : FVec Ideal S10x9 .bf16) (e : FVec Ideal S1820x10 .bf16) (W : Fin 10 → Fin 9 → ℤ)
    (hw : ∀ o t, w (ix2 o t) = up (W o t)) (he : ∀ o (k : Fin 1820), e (ix2 k o) = up (if o.val = k.val / 182 then 1 else 0))
    (c : Fin 1820) (t : Fin 9) : k0_pay5 (F := Ideal) e w (ix2 c t) = up (W ⟨c.val / 182, by omega⟩ t) := by
  pointwise [k0_pay5]
  simp only [hw, he, up_mul, up_sum]
  congr 1
  rw [Finset.sum_eq_single ⟨c.val / 182, by omega⟩]
  · rw [if_pos rfl, one_mul]
  · intro o _ ho
    rw [if_neg (fun h => ho (Fin.ext h)), zero_mul]
  · intro h; exact absurd (Finset.mem_univ _) h

/-- Selecting between integers by the equality of two small words. -/
theorem select_up (k n : ℕ) (hk : k < 4096) (hn : n < 4096) (a b : ℤ) :
    Scalar.select (IntOp.cmpi CmpIPredicate.eq (BitVec.ofNat 32 k) (BitVec.ofNat 32 n)) (up a) (up b) = up (if k = n then a else b) := by
  have h : (BitVec.ofNat 32 k = BitVec.ofNat 32 n) ↔ k = n := by
    constructor
    · intro h
      have := congrArg BitVec.toNat h
      simp only [BitVec.toNat_ofNat] at this
      omega
    · rintro rfl; rfl
  by_cases hkn : k = n
  · subst hkn
    simp [Scalar.select, IntOp.cmpi]
  · have : ¬ (BitVec.ofNat 32 k = BitVec.ofNat 32 n) := fun hh => hkn (h.1 hh)
    rw [if_neg hkn]
    have h0 : IntOp.cmpi CmpIPredicate.eq (BitVec.ofNat 32 k) (BitVec.ofNat 32 n) = 0#1 := by
      show BitVec.ofBool (BitVec.ofNat 32 k == BitVec.ofNat 32 n) = 0#1
      rw [beq_eq_false_iff_ne.mpr this]
      rfl
    rw [h0]
    rfl

/-- The first-layer matrix: at row `k` and column `c` the weight of the tap of `c` that reads `k`, if there is one. -/
theorem mat1_at (w : FVec Ideal S10x9 .bf16) (T : IVec S9x1820 32) (e : FVec Ideal S10x1820 .bf16) (W : Fin 10 → Fin 9 → ℤ)
    (hw : ∀ o t, w (ix2 o t) = up (W o t)) (hT : ∀ t (k : Fin 1820), T (ix2 t k) = BitVec.ofNat 32 (tap1 t.val (k.val % 182)))
    (he : ∀ o (k : Fin 1820), e (ix2 o k) = up (if o.val = k.val / 182 then 1 else 0)) (k : Fin 240) (c : Fin 1820) :
    mat1 (F := Ideal) w T e (ix2 k c) = up (∑ t : Fin 9, if tap1 t.val (c.val % 182) = k.val then W ⟨c.val / 182, by omega⟩ t else 0) := by
  have hk : k.val < 4096 := by omega
  have hb : ∀ t : Fin 9, tap1 t.val (c.val % 182) < 4096 := fun t => by
    have := tap1_lt t (c.val % 182) (by omega)
    omega
  rw [← overwrites (fun t => tap1 t.val (c.val % 182)) (tap1_inj _) (fun t => W ⟨c.val / 182, by omega⟩ t) k.val]
  pointwise [mat1, k0_pay3, k0_pay4, row1]
  simp only [spread1 w e W hw he, hT, ← up_zero, select_up _ _ hk (hb _)]
  rfl

/-- The second-layer matrix: at row `k` and column `p` the weight, in `k`'s plane, of the tap of `p` that reads `k`'s position. -/
theorem mat2_at (w : FVec Ideal S10x9 .bf16) (T : IVec S9x132 32) (pin : IVec S1820x1 32) (e : FVec Ideal S1820x10 .bf16)
    (W : Fin 10 → Fin 9 → ℤ) (hw : ∀ o t, w (ix2 o t) = up (W o t)) (hT : ∀ t (p : Fin 132), T (ix2 t p) = BitVec.ofNat 32 (tap2 t.val p.val))
    (hp : ∀ k : Fin 1820, pin (ix2 k 0) = BitVec.ofNat 32 (k.val % 182))
    (he : ∀ o (k : Fin 1820), e (ix2 k o) = up (if o.val = k.val / 182 then 1 else 0)) (k : Fin 1820) (p : Fin 132) :
    mat2 (F := Ideal) w T pin e (ix2 k p)
      = up (∑ t : Fin 9, if tap2 t.val p.val = k.val % 182 then W ⟨k.val / 182, by omega⟩ t else 0) := by
  have hk : k.val % 182 < 4096 := by omega
  have hb : ∀ t : Fin 9, tap2 t.val p.val < 4096 := fun t => by
    have := tap2_lt t p.val p.isLt
    omega
  rw [← overwrites (fun t => tap2 t.val p.val) (tap2_inj _) (fun t => W ⟨k.val / 182, by omega⟩ t) (k.val % 182)]
  pointwise [mat2, k0_pay6, k0_pay7, k0_pay8, k0_pay9, row2]
  simp only [spread2 w e W hw he, hT, hp, ← up_zero, select_up _ _ hk (hb _)]
  rfl

/-- The larger of an integer and zero, taken in the extended reals. -/
theorem max_up (z : ℤ) : max (up z) 0 = up (max z 0) := by
  rw [← up_zero]
  rcases le_total z 0 with h | h
  · rw [max_eq_right h, max_eq_right]; unfold up; exact_mod_cast h
  · rw [max_eq_left h, max_eq_left]; unfold up; exact_mod_cast h

/-- The output block: the network on each row of the input block. -/
theorem outBlock_at (x : IVec S2048x240 32) (m1 : FVec Ideal S240x1820 .bf16) (m2 : FVec Ideal S1820x132 .bf16) (f : FVec Ideal S10x132 .bf16)
    (g : FVec Ideal S1x10 .f32) (n : Fin 2048) (X : Fin 240 → ℤ) (W1 W2 : Fin 10 → Fin 9 → ℤ) (F1 : Fin 10 → Fin 132 → ℤ) (F2 : Fin 10 → ℤ)
    (hx : ∀ k, (x (ix2 n k)).toInt = X k)
    (h1 : ∀ k c, m1 (ix2 k c) = up (∑ t : Fin 9, if tap1 t.val (c.val % 182) = k.val then W1 ⟨c.val / 182, by omega⟩ t else 0))
    (h2 : ∀ k p, m2 (ix2 k p) = up (∑ t : Fin 9, if tap2 t.val p.val = k.val % 182 then W2 ⟨k.val / 182, by omega⟩ t else 0))
    (hf : ∀ j p, f (ix2 j p) = up (F1 j p)) (hg : ∀ j, g (ix2 0 j) = up (F2 j)) :
    outBlock (F := Ideal) x m1 m2 f g (ix2 n 0) = BitVec.ofInt 32 (net X W1 W2 F1 F2) := by
  have h3 : ∀ j : Fin 10, k0_pay10 (F := Ideal) x m1 m2 f (ix2 n j) = max (∑ p : Fin 132, low8E (∑ c : Fin 1820, low8E (∑ k : Fin 240,
      up (x (ix2 n k)).toInt * m1 (ix2 k c)) * m2 (ix2 c p)) * f (ix2 j p)) 0 := by
    intro j
    pointwise [k0_pay10]
    rfl
  have h4 : ∀ j : Fin 10, k0_pay10 (F := Ideal) x m1 m2 f (ix2 n j) = up (max (∑ p : Fin 132, conv2 (conv1 X W1) W2 p * F1 j p) 0) := by
    intro j
    rw [h3]
    simp only [hx, h1, h2, hf, up_mul, up_sum, low8E_up, conv1_matrix, conv2_matrix, max_up]
  have h5 : ∀ j : Fin 10, k0_pay10 (F := Ideal) x m1 m2 f (ix2 n j) - Ideal.ofBits FTy.f32 1132462080#32 * k0_pay11 (F := Ideal) x m1 m2 f (ix2 n j)
      = up (fc1 (conv2 (conv1 X W1) W2) F1 j) := by
    intro j
    pointwise [k0_pay11]
    rw [h4, ← max_up]
    exact low8E_up _
  pointwise [outBlock, k0_pay1]
  simp only [h5, hg, up_mul, up_sum]
  exact (congrArg (FloatOps.fptosi (F := Ideal) (φ := .f32) 32) (low8E_up _)).trans (fptosi_up _)

end Cert.KernelIdeal.Layers

end
-- ==== Proof.KernelResult.lean ====
module

public import proofs.«01_k».proof.Proof.Blocks
public import proofs.«01_k».proof.Proof.Inputs
public import proofs.«01_k».proof.Proof.Layers

/-! The kernel's result at a row: the integer network on that row's image, with no condition on the arguments. -/

@[expose] public section

set_option maxRecDepth 16384

noncomputable section

namespace Cert.KernelIdeal.Result

open Idealize.ShloMosaic Idealize.ShloMosaic.TcCoe Cert.KernelIdeal Cert.KernelIdeal.Gen Cert.Ints Cert.Model
open Cert.KernelIdeal.Blocks Cert.KernelIdeal.Inputs Cert.KernelIdeal.Layers

variable (m : (ℓ : Loc nD τ sig) → Buf (Elt Ideal) ℓ)

/-- The kernel's result at a row is the integer network on that row's image. -/
theorem result_at (c : Dev nD) (r : Fin 16384) :
    (Value.G10 m c : IVec S16384x1 32) (ix2 r 0) = BitVec.ofInt 32 (net
      (fun k => ((m (c.tc.loc main_arg0) : IVec S16384x1x15x16 32) (ix4 r 0 ⟨k.val / 16, by omega⟩ ⟨k.val % 16, by omega⟩)).toInt)
      (fun o t => ((m (c.tc.loc main_arg1) : IVec S10x1x3x3 32) (ix4 o 0 ⟨t.val / 3, by omega⟩ ⟨t.val % 3, by omega⟩)).toInt)
      (fun o t => ((m (c.tc.loc main_arg3) : IVec S1x10x3x3 32) (ix4 0 o ⟨t.val / 3, by omega⟩ ⟨t.val % 3, by omega⟩)).toInt)
      (fun j p => ((m (c.tc.loc main_arg5) : IVec S10x132 32) (ix2 j p)).toInt)
      (fun j => ((m (c.tc.loc main_arg7) : IVec S1x10 32) (ix2 0 j)).toInt)) := by
  obtain ⟨t, n, h, rfl⟩ : ∃ (t : Fin 8) (n : Fin 2048) (h : 2048 * t.val + n.val < 16384), r = ⟨2048 * t.val + n.val, h⟩ :=
    ⟨⟨r.val / 2048, by omega⟩, ⟨r.val % 2048, by omega⟩, by show 2048 * (r.val / 2048) + r.val % 2048 < 16384; omega,
      Fin.ext (by show r.val = 2048 * (r.val / 2048) + r.val % 2048; omega)⟩
  rw [result_row m c t n h]
  refine outBlock_at _ _ _ _ _ n _ _ _ _ _ (fun k => ?_) (fun k q => ?_) (fun k p => ?_) (fun j p => wf1_at m c j p) (fun j => wf2_at m c j)
  · exact congrArg BitVec.toInt ((block0 m c t n k h).trans (x_at m c _ k))
  · exact mat1_at _ _ _ _ (w1_at m c) (t1_at m c) (e1_at m c) k q
  · exact mat2_at _ _ _ _ _ (w2_at m c) (t2_at m c) (pin_at m c) (e2_at m c) k p

end Cert.KernelIdeal.Result

end
-- ==== Proof.RefOps.lean ====
module

public import proofs.«01_k».proof.Proof.Model
public import Idealize.ShloMosaic.Lib.Pointwise

/-! Words as integers: sums and products of words are the words of the integer sums and products, and one layer's clip and mask on a word. -/

@[expose] public section

noncomputable section

namespace Cert.RefOps

open Idealize.ShloMosaic Cert.Ints

/-- The word of an integer. -/
abbrev wd (z : ℤ) : BitVec 32 := BitVec.ofInt 32 z

/-- A sum of words. -/
theorem addi_wd (a b : ℤ) : IntOp.addi (wd a) (wd b) = wd (a + b) := by
  unfold wd; rw [BitVec.ofInt_add]; rfl

/-- A product of words. -/
theorem muli_wd (a b : ℤ) : IntOp.muli (wd a) (wd b) = wd (a * b) := by
  unfold wd; rw [BitVec.ofInt_mul]; rfl

/-- A fold by word addition is the word of the integer sum. -/
theorem fold_wd {n : ℕ} (f : Fin n → ℤ) : Finset.univ.fold IntOp.addi 0#32 (fun k => wd (f k)) = wd (∑ k, f k) := by
  have h : ∀ s : Finset (Fin n), s.fold IntOp.addi 0#32 (fun k => wd (f k)) = wd (∑ k ∈ s, f k) := by
    intro s
    induction s using Finset.induction_on with
    | empty => rfl
    | insert a s ha ih => rw [Finset.fold_insert ha, Finset.sum_insert ha, ih, addi_wd]
  exact h _

/-- A word is the word of the integer it reads as. -/
theorem wd_toInt (b : BitVec 32) : b = wd b.toInt := (BitVec.ofInt_toInt).symm

/-- The clip to the accumulator's range and the mask of the low eight bits, on a word whose integer stays in range. -/
theorem trunc_wd (z : ℤ) (h : |z| ≤ 8388607) :
    IntOp.andi (IntOp.minsi 8388607#32 (IntOp.maxsi 0#32 (wd z))) 255#32 = wd (low8 z) := by
  have hz := abs_le.mp h
  have ht : (wd z).toInt = z := by
    rw [BitVec.toInt_ofInt]
    generalize z = y at hz
    simp only [Int.bmod]
    omega
  have hc : (8388607#32 : BitVec 32).toInt = 8388607 := by decide
  rcases le_or_gt z 0 with h0 | h0
  · have hm : IntOp.maxsi 0#32 (wd z) = 0#32 := by
      unfold IntOp.maxsi
      split
      · rfl
      · rename_i hs
        have hs' : ¬ (wd z).toInt < (0#32 : BitVec 32).toInt := by simpa [BitVec.slt] using hs
        rw [ht] at hs'
        have : z = 0 := by
          have : (0#32 : BitVec 32).toInt = 0 := by decide
          omega
        subst this
        rfl
    have hl : low8 z = 0 := by unfold low8; omega
    rw [hm, hl]
    rfl
  · have hm : IntOp.maxsi 0#32 (wd z) = wd z := by
      unfold IntOp.maxsi
      rw [if_neg]
      simp only [BitVec.slt, ht, decide_eq_true_eq]
      have : (0#32 : BitVec 32).toInt = 0 := by decide
      omega
    have hn : IntOp.minsi 8388607#32 (wd z) = wd z := by
      unfold IntOp.minsi
      rcases eq_or_lt_of_le hz.2 with he | hl
      · subst he; rfl
      · rw [if_neg]
        simp only [BitVec.slt, ht, hc, decide_eq_true_eq]
        omega
    obtain ⟨k, rfl⟩ : ∃ k : ℕ, z = (k : ℤ) := ⟨z.toNat, by omega⟩
    have hl : low8 (k : ℤ) = ((k % 256 : ℕ) : ℤ) := by unfold low8; omega
    rw [hm, hn, hl]
    apply BitVec.eq_of_toNat_eq
    show (BitVec.ofInt 32 (k : ℤ) &&& 255#32).toNat = (BitVec.ofInt 32 ((k % 256 : ℕ) : ℤ)).toNat
    rw [BitVec.toNat_and, BitVec.ofInt_natCast, BitVec.ofInt_natCast, BitVec.toNat_ofNat, BitVec.toNat_ofNat, BitVec.toNat_ofNat]
    have hk : k % 2 ^ 32 = k := by omega
    rw [hk, show 255 % 2 ^ 32 = 2 ^ 8 - 1 from rfl, Nat.and_two_pow_sub_one_eq_mod]
    omega

/-- A sum of bounded terms is bounded. -/
theorem sum_bound {n : ℕ} (f : Fin n → ℤ) (B : ℤ) (h : ∀ k, |f k| ≤ B) : |∑ k, f k| ≤ n * B := by
  refine (Finset.abs_sum_le_sum_abs _ _).trans ((Finset.sum_le_sum fun k _ => h k).trans ?_)
  simp

/-- A product of an eight-bit activation and an eight-bit weight. -/
theorem mul_bound (x w : ℤ) (hx : 0 ≤ x ∧ x < 256) (hw : -128 ≤ w ∧ w < 128) : |x * w| ≤ 32640 := by
  rw [abs_le]
  constructor <;> nlinarith

end Cert.RefOps

end
-- ==== Proof.RefConv.lean ====
module

public import proofs.«01_k».proof.Proof.RefOps
public import proofs.«01_k».proof.Proof.Gen.ReferenceIdeal.Run

/-! The two convolutions of the reference at an index, as words of the integer network. -/

@[expose] public section

set_option maxRecDepth 16384

noncomputable section

namespace Cert.ReferenceIdeal.Layers

open Idealize.ShloMosaic Idealize.ShloMosaic.Tactic Cert.ReferenceIdeal Cert.ReferenceIdeal.Gen Cert.Ints Cert.Model Cert.RefOps Cert.KernelIdeal.Tables

/-- One tap of the first convolution, over the whole batch. -/
def tapA (a b : ℕ) (x : IVec S16384x1x15x16 32) (w : IVec S10x1x3x3 32)
    (hs : S16384x1x15x16.Slices ![0, 0, a, b] S16384x1x13x14) (hw : S10x1x3x3.Slices ![0, 0, a, b] S10x1x1x1) : IVec S16384x10x13x14 32 :=
  Host.reduce IntOp.addi
    (muli
      (broadcastInDim S16384x10x1x13x14 ![0, 1, 2, 3, 4] bcast_S16384x1x1x13x14_S16384x10x1x13x14_0_1_2_3_4
        (broadcastInDim S16384x1x1x13x14 ![0, 2, 3, 4] bcast_S16384x1x13x14_S16384x1x1x13x14_0_2_3_4
          (extractStridedSlice S16384x1x13x14 ![0, 0, a, b] x hs)))
      (broadcastInDim S16384x10x1x13x14 ![0, 1, 2, 3, 4] bcast_S1x10x1x1x1_S16384x10x1x13x14_0_1_2_3_4
        (broadcastInDim S1x10x1x1x1 ![1, 2] bcast_S10x1_S1x10x1x1x1_1_2
          (shapeCast S10x1 (extractStridedSlice S10x1x1x1 ![0, 0, a, b] w hw) shapeCasts_S10x1x1x1_S10x1))))
    (constantI S_ 32 0#32) reducesTo_S16384x10x1x13x14_S16384x10x13x14_d2 h_S_

/-- One tap of the second convolution, over the whole batch. -/
def tapB (a b : ℕ) (y : IVec S16384x10x13x14 32) (w : IVec S1x10x3x3 32)
    (hs : S16384x10x13x14.Slices ![0, 0, a, b] S16384x10x11x12) (hw : S1x10x3x3.Slices ![0, 0, a, b] S1x10x1x1) : IVec S16384x1x11x12 32 :=
  Host.reduce IntOp.addi
    (muli
      (broadcastInDim S16384x1x10x11x12 ![0, 2, 3, 4] bcast_S16384x10x11x12_S16384x1x10x11x12_0_2_3_4
        (extractStridedSlice S16384x10x11x12 ![0, 0, a, b] y hs))
      (broadcastInDim S16384x1x10x11x12 ![0, 1, 2, 3, 4] bcast_S1x1x10x1x1_S16384x1x10x11x12_0_1_2_3_4
        (broadcastInDim S1x1x10x1x1 ![1, 2] bcast_S1x10_S1x1x10x1x1_1_2
          (shapeCast S1x10 (extractStridedSlice S1x10x1x1 ![0, 0, a, b] w hw) shapeCasts_S1x10x1x1_S1x10))))
    (constantI S_ 32 0#32) reducesTo_S16384x1x10x11x12_S16384x1x11x12_d2 h_S_

/-- The first convolution before its bias. -/
def accA (x : IVec S16384x1x15x16 32) (w : IVec S10x1x3x3 32) : IVec S16384x10x13x14 32 :=
  addi (addi (addi (addi (addi (addi (addi (addi (addi (broadcastInDim S16384x10x13x14 ![] bcast_S_S16384x10x13x14 (constantI S_ 32 0#32))
    (tapA 0 0 x w slices_S16384x1x15x16_S16384x1x13x14_0_0_0_0 slices_S10x1x3x3_S10x1x1x1_0_0_0_0))
    (tapA 0 1 x w slices_S16384x1x15x16_S16384x1x13x14_0_0_0_1 slices_S10x1x3x3_S10x1x1x1_0_0_0_1))
    (tapA 0 2 x w slices_S16384x1x15x16_S16384x1x13x14_0_0_0_2 slices_S10x1x3x3_S10x1x1x1_0_0_0_2))
    (tapA 1 0 x w slices_S16384x1x15x16_S16384x1x13x14_0_0_1_0 slices_S10x1x3x3_S10x1x1x1_0_0_1_0))
    (tapA 1 1 x w slices_S16384x1x15x16_S16384x1x13x14_0_0_1_1 slices_S10x1x3x3_S10x1x1x1_0_0_1_1))
    (tapA 1 2 x w slices_S16384x1x15x16_S16384x1x13x14_0_0_1_2 slices_S10x1x3x3_S10x1x1x1_0_0_1_2))
    (tapA 2 0 x w slices_S16384x1x15x16_S16384x1x13x14_0_0_2_0 slices_S10x1x3x3_S10x1x1x1_0_0_2_0))
    (tapA 2 1 x w slices_S16384x1x15x16_S16384x1x13x14_0_0_2_1 slices_S10x1x3x3_S10x1x1x1_0_0_2_1))
    (tapA 2 2 x w slices_S16384x1x15x16_S16384x1x13x14_0_0_2_2 slices_S10x1x3x3_S10x1x1x1_0_0_2_2)

/-- The second convolution before its bias. -/
def accB (y : IVec S16384x10x13x14 32) (w : IVec S1x10x3x3 32) : IVec S16384x1x11x12 32 :=
  addi (addi (addi (addi (addi (addi (addi (addi (addi (broadcastInDim S16384x1x11x12 ![] bcast_S_S16384x1x11x12 (constantI S_ 32 0#32))
    (tapB 0 0 y w slices_S16384x10x13x14_S16384x10x11x12_0_0_0_0 slices_S1x10x3x3_S1x10x1x1_0_0_0_0))
    (tapB 0 1 y w slices_S16384x10x13x14_S16384x10x11x12_0_0_0_1 slices_S1x10x3x3_S1x10x1x1_0_0_0_1))
    (tapB 0 2 y w slices_S16384x10x13x14_S16384x10x11x12_0_0_0_2 slices_S1x10x3x3_S1x10x1x1_0_0_0_2))
    (tapB 1 0 y w slices_S16384x10x13x14_S16384x10x11x12_0_0_1_0 slices_S1x10x3x3_S1x10x1x1_0_0_1_0))
    (tapB 1 1 y w slices_S16384x10x13x14_S16384x10x11x12_0_0_1_1 slices_S1x10x3x3_S1x10x1x1_0_0_1_1))
    (tapB 1 2 y w slices_S16384x10x13x14_S16384x10x11x12_0_0_1_2 slices_S1x10x3x3_S1x10x1x1_0_0_1_2))
    (tapB 2 0 y w slices_S16384x10x13x14_S16384x10x11x12_0_0_2_0 slices_S1x10x3x3_S1x10x1x1_0_0_2_0))
    (tapB 2 1 y w slices_S16384x10x13x14_S16384x10x11x12_0_0_2_1 slices_S1x10x3x3_S1x10x1x1_0_0_2_1))
    (tapB 2 2 y w slices_S16384x10x13x14_S16384x10x11x12_0_0_2_2 slices_S1x10x3x3_S1x10x1x1_0_0_2_2)

/-- The first layer. -/
def layerA (x : IVec S16384x1x15x16 32) (w : IVec S10x1x3x3 32) (b : IVec S10 32) : IVec S16384x10x13x14 32 :=
  andi (minsi (broadcastInDim S16384x10x13x14 ![] bcast_S_S16384x10x13x14 (id (constantI S_ 32 8388607#32)))
    (maxsi (broadcastInDim S16384x10x13x14 ![] bcast_S_S16384x10x13x14 (id (constantI S_ 32 0#32)))
      (addi (accA x w) (broadcastInDim S16384x10x13x14 ![0, 1, 2, 3] bcast_S1x10x1x1_S16384x10x13x14_0_1_2_3
        (broadcastInDim S1x10x1x1 ![1] bcast_S10_S1x10x1x1_1 b)))))
    (broadcastInDim S16384x10x13x14 ![] bcast_S_S16384x10x13x14 (constantI S_ 32 255#32))

/-- The second layer. -/
def layerB (y : IVec S16384x10x13x14 32) (w : IVec S1x10x3x3 32) (b : IVec S1 32) : IVec S16384x1x11x12 32 :=
  andi (minsi (broadcastInDim S16384x1x11x12 ![] bcast_S_S16384x1x11x12 (id (constantI S_ 32 8388607#32)))
    (maxsi (broadcastInDim S16384x1x11x12 ![] bcast_S_S16384x1x11x12 (id (constantI S_ 32 0#32)))
      (addi (accB y w) (broadcastInDim S16384x1x11x12 ![0, 1, 2, 3] bcast_S1x1x1x1_S16384x1x11x12_0_1_2_3
        (broadcastInDim S1x1x1x1 ![1] bcast_S1_S1x1x1x1_1 b)))))
    (broadcastInDim S16384x1x11x12 ![] bcast_S_S16384x1x11x12 (constantI S_ 32 255#32))

/-- A tap of the first convolution at an index. -/
theorem tapA_at (a b : ℕ) (x : IVec S16384x1x15x16 32) (w : IVec S10x1x3x3 32)
    (hs : S16384x1x15x16.Slices ![0, 0, a, b] S16384x1x13x14) (hw : S10x1x3x3.Slices ![0, 0, a, b] S10x1x1x1)
    (n : Fin 16384) (o : Fin 10) (i : Fin 13) (j : Fin 14) (X : Fin 240 → ℤ) (W : Fin 10 → Fin 9 → ℤ)
    (hX : ∀ k : Fin 240, x (ix4 n 0 ⟨k.val / 16, by omega⟩ ⟨k.val % 16, by omega⟩) = wd (X k))
    (hW : ∀ o (t : Fin 9), w (ix4 o 0 ⟨t.val / 3, by omega⟩ ⟨t.val % 3, by omega⟩) = wd (W o t))
    (t : Fin 9) (ht : t.val = a * 3 + b) (hb : b < 3) :
    tapA a b x w hs hw (ix4 n o i j) = wd (X ⟨tap1 t.val (i.val * 14 + j.val), tap1_lt t _ (by omega)⟩ * W o t) := by
  have hx : ∀ h1 h2, x (ix4 n 0 ⟨a + i.val, h1⟩ ⟨b + j.val, h2⟩) = wd (X ⟨tap1 t.val (i.val * 14 + j.val), tap1_lt t _ (by omega)⟩) := by
    intro h1 h2
    rw [← hX]
    congr 2 <;> apply Fin.ext <;> simp only [tap1] <;> omega
  have hw' : ∀ h1 h2, w (ix4 o 0 ⟨a, h1⟩ ⟨b, h2⟩) = wd (W o t) := by
    intro h1 h2
    rw [← hW]
    congr 2 <;> apply Fin.ext
    · show a = t.val / 3; omega
    · show b = t.val % 3; omega
  unfold tapA
  rw [Host.reduce_eq_fold]
  pointwise
  simp only [hx, hw', muli_wd]
  exact (fold_wd _).trans (by simp)

/-- A tap of the second convolution at an index. -/
theorem tapB_at (a b : ℕ) (y : IVec S16384x10x13x14 32) (w : IVec S1x10x3x3 32)
    (hs : S16384x10x13x14.Slices ![0, 0, a, b] S16384x10x11x12) (hw : S1x10x3x3.Slices ![0, 0, a, b] S1x10x1x1)
    (n : Fin 16384) (i : Fin 11) (j : Fin 12) (A : Fin 1820 → ℤ) (W : Fin 10 → Fin 9 → ℤ)
    (hA : ∀ (o : Fin 10) (i : Fin 13) (j : Fin 14), y (ix4 n o i j) = wd (A ⟨o.val * 182 + (i.val * 14 + j.val), by omega⟩))
    (hW : ∀ o (t : Fin 9), w (ix4 0 o ⟨t.val / 3, by omega⟩ ⟨t.val % 3, by omega⟩) = wd (W o t))
    (t : Fin 9) (ht : t.val = a * 3 + b) (hb : b < 3) :
    tapB a b y w hs hw (ix4 n 0 i j)
      = wd (∑ o : Fin 10, A ⟨o.val * 182 + tap2 t.val (i.val * 12 + j.val), by have := tap2_lt t (i.val * 12 + j.val) (by omega); omega⟩ * W o t) := by
  have hy : ∀ (o : Fin 10) h1 h2, y (ix4 n o ⟨a + i.val, h1⟩ ⟨b + j.val, h2⟩)
      = wd (A ⟨o.val * 182 + tap2 t.val (i.val * 12 + j.val), by have := tap2_lt t (i.val * 12 + j.val) (by omega); omega⟩) := by
    intro o h1 h2
    rw [hA]
    congr 2
    apply Fin.ext
    simp only [tap2]
    omega
  have hw' : ∀ (o : Fin 10) h1 h2, w (ix4 0 o ⟨a, h1⟩ ⟨b, h2⟩) = wd (W o t) := by
    intro o h1 h2
    rw [← hW]
    congr 2 <;> apply Fin.ext
    · show a = t.val / 3; omega
    · show b = t.val % 3; omega
  unfold tapB
  rw [Host.reduce_eq_fold]
  pointwise
  simp only [hy, hw', muli_wd]
  exact fold_wd _

/-- Nine terms added in order from zero. -/
theorem nine (f : Fin 9 → ℤ) : 0 + f 0 + f 1 + f 2 + f 3 + f 4 + f 5 + f 6 + f 7 + f 8 = ∑ t, f t := by
  simp [Fin.sum_univ_succ]
  ring

/-- The first convolution at an index. -/
theorem accA_at (x : IVec S16384x1x15x16 32) (w : IVec S10x1x3x3 32)
    (n : Fin 16384) (o : Fin 10) (i : Fin 13) (j : Fin 14) (X : Fin 240 → ℤ) (W : Fin 10 → Fin 9 → ℤ)
    (hX : ∀ k : Fin 240, x (ix4 n 0 ⟨k.val / 16, by omega⟩ ⟨k.val % 16, by omega⟩) = wd (X k))
    (hW : ∀ o (t : Fin 9), w (ix4 o 0 ⟨t.val / 3, by omega⟩ ⟨t.val % 3, by omega⟩) = wd (W o t)) :
    accA x w (ix4 n o i j) = wd (∑ t : Fin 9, X ⟨tap1 t.val (i.val * 14 + j.val), tap1_lt t _ (by omega)⟩ * W o t) := by
  unfold accA
  pointwise
  rw [tapA_at 0 0 x w _ _ n o i j X W hX hW 0 rfl (by decide), tapA_at 0 1 x w _ _ n o i j X W hX hW 1 rfl (by decide), tapA_at 0 2 x w _ _ n o i j X W hX hW 2 rfl (by decide), tapA_at 1 0 x w _ _ n o i j X W hX hW 3 rfl (by decide), tapA_at 1 1 x w _ _ n o i j X W hX hW 4 rfl (by decide), tapA_at 1 2 x w _ _ n o i j X W hX hW 5 rfl (by decide), tapA_at 2 0 x w _ _ n o i j X W hX hW 6 rfl (by decide), tapA_at 2 1 x w _ _ n o i j X W hX hW 7 rfl (by decide), tapA_at 2 2 x w _ _ n o i j X W hX hW 8 rfl (by decide)]
  rw [show (0#32 : BitVec 32) = wd 0 from rfl]
  simp only [addi_wd]
  rw [nine fun t : Fin 9 => X ⟨tap1 t.val (i.val * 14 + j.val), tap1_lt t _ (by omega)⟩ * W o t]

/-- The second convolution at an index. -/
theorem accB_at (y : IVec S16384x10x13x14 32) (w : IVec S1x10x3x3 32)
    (n : Fin 16384) (i : Fin 11) (j : Fin 12) (A : Fin 1820 → ℤ) (W : Fin 10 → Fin 9 → ℤ)
    (hA : ∀ (o : Fin 10) (i : Fin 13) (j : Fin 14), y (ix4 n o i j) = wd (A ⟨o.val * 182 + (i.val * 14 + j.val), by omega⟩))
    (hW : ∀ o (t : Fin 9), w (ix4 0 o ⟨t.val / 3, by omega⟩ ⟨t.val % 3, by omega⟩) = wd (W o t)) :
    accB y w (ix4 n 0 i j)
      = wd (∑ t : Fin 9, ∑ o : Fin 10, A ⟨o.val * 182 + tap2 t.val (i.val * 12 + j.val), by have := tap2_lt t (i.val * 12 + j.val) (by omega); omega⟩ * W o t) := by
  unfold accB
  pointwise
  rw [tapB_at 0 0 y w _ _ n i j A W hA hW 0 rfl (by decide), tapB_at 0 1 y w _ _ n i j A W hA hW 1 rfl (by decide), tapB_at 0 2 y w _ _ n i j A W hA hW 2 rfl (by decide), tapB_at 1 0 y w _ _ n i j A W hA hW 3 rfl (by decide), tapB_at 1 1 y w _ _ n i j A W hA hW 4 rfl (by decide), tapB_at 1 2 y w _ _ n i j A W hA hW 5 rfl (by decide), tapB_at 2 0 y w _ _ n i j A W hA hW 6 rfl (by decide), tapB_at 2 1 y w _ _ n i j A W hA hW 7 rfl (by decide), tapB_at 2 2 y w _ _ n i j A W hA hW 8 rfl (by decide)]
  rw [show (0#32 : BitVec 32) = wd 0 from rfl]
  simp only [addi_wd]
  rw [nine fun t : Fin 9 => ∑ o : Fin 10, A ⟨o.val * 182 + tap2 t.val (i.val * 12 + j.val), by have := tap2_lt t (i.val * 12 + j.val) (by omega); omega⟩ * W o t]

/-- The first layer at an index is the integer network's, the arguments in their ranges. -/
theorem layerA_at (x : IVec S16384x1x15x16 32) (w : IVec S10x1x3x3 32) (b : IVec S10 32)
    (n : Fin 16384) (o : Fin 10) (i : Fin 13) (j : Fin 14) (X : Fin 240 → ℤ) (W : Fin 10 → Fin 9 → ℤ)
    (hX : ∀ k : Fin 240, x (ix4 n 0 ⟨k.val / 16, by omega⟩ ⟨k.val % 16, by omega⟩) = wd (X k))
    (hW : ∀ o (t : Fin 9), w (ix4 o 0 ⟨t.val / 3, by omega⟩ ⟨t.val % 3, by omega⟩) = wd (W o t))
    (hb : ∀ o : Fin 10, b (ix1 o) = 0#32) (hXr : ∀ k, 0 ≤ X k ∧ X k < 256) (hWr : ∀ o t, -128 ≤ W o t ∧ W o t < 128) :
    layerA x w b (ix4 n o i j) = wd (conv1 X W ⟨o.val * 182 + (i.val * 14 + j.val), by omega⟩) := by
  have hc : conv1 X W ⟨o.val * 182 + (i.val * 14 + j.val), by omega⟩
      = low8 (∑ t : Fin 9, X ⟨tap1 t.val (i.val * 14 + j.val), tap1_lt t _ (by omega)⟩ * W o t) := by
    have h1 : (o.val * 182 + (i.val * 14 + j.val)) % 182 = i.val * 14 + j.val := by omega
    have h2 : (⟨(o.val * 182 + (i.val * 14 + j.val)) / 182, by omega⟩ : Fin 10) = o :=
      Fin.ext (by show (o.val * 182 + (i.val * 14 + j.val)) / 182 = o.val; omega)
    unfold conv1
    simp only [h1, h2]
  have hbd := sum_bound (fun t : Fin 9 => X ⟨tap1 t.val (i.val * 14 + j.val), tap1_lt t _ (by omega)⟩ * W o t) 32640
    (fun t => mul_bound _ _ (hXr _) (hWr _ _))
  rw [hc, ← trunc_wd _ (hbd.trans (by norm_num))]
  unfold layerA
  pointwise
  rw [accA_at x w n o i j X W hX hW, hb]
  rw [show (0#32 : BitVec 32) = wd 0 from rfl, addi_wd, add_zero]
  rfl

/-- The second layer at an index is the integer network's, the arguments in their ranges. -/
theorem layerB_at (y : IVec S16384x10x13x14 32) (w : IVec S1x10x3x3 32) (b : IVec S1 32)
    (n : Fin 16384) (i : Fin 11) (j : Fin 12) (A : Fin 1820 → ℤ) (W : Fin 10 → Fin 9 → ℤ)
    (hA : ∀ (o : Fin 10) (i : Fin 13) (j : Fin 14), y (ix4 n o i j) = wd (A ⟨o.val * 182 + (i.val * 14 + j.val), by omega⟩))
    (hW : ∀ o (t : Fin 9), w (ix4 0 o ⟨t.val / 3, by omega⟩ ⟨t.val % 3, by omega⟩) = wd (W o t))
    (hb : ∀ o : Fin 1, b (ix1 o) = 0#32) (hAr : ∀ k, 0 ≤ A k ∧ A k < 256) (hWr : ∀ o t, -128 ≤ W o t ∧ W o t < 128) :
    layerB y w b (ix4 n 0 i j) = wd (conv2 A W ⟨i.val * 12 + j.val, by omega⟩) := by
  have hbd := sum_bound (fun t : Fin 9 => ∑ o : Fin 10, A ⟨o.val * 182 + tap2 t.val (i.val * 12 + j.val), by have := tap2_lt t (i.val * 12 + j.val) (by omega); omega⟩ * W o t) (10 * 32640)
    (fun t => sum_bound _ 32640 (fun o => mul_bound _ _ (hAr _) (hWr _ _)))
  unfold conv2
  rw [← trunc_wd _ (hbd.trans (by norm_num))]
  unfold layerB
  pointwise
  rw [accB_at y w n i j A W hA hW, hb]
  rw [show (0#32 : BitVec 32) = wd 0 from rfl, addi_wd, add_zero]
  rfl

end Cert.ReferenceIdeal.Layers

end
-- ==== Proof.RefResult.lean ====
module

public import proofs.«01_k».proof.Proof.RefConv

/-! The two fully connected layers of the reference at an index, and the reference's whole result. -/

@[expose] public section

set_option maxRecDepth 16384

noncomputable section

namespace Cert.ReferenceIdeal.Layers

open Idealize.ShloMosaic Idealize.ShloMosaic.TcCoe Idealize.ShloMosaic.Tactic Cert.ReferenceIdeal Cert.ReferenceIdeal.Gen Cert.Ints Cert.Model Cert.RefOps

/-- The third layer. -/
def layerC (y : IVec S16384x132 32) (w : IVec S10x132 32) (b : IVec S10 32) : IVec S16384x10 32 :=
  andi (minsi (broadcastInDim S16384x10 ![] bcast_S_S16384x10 (id (constantI S_ 32 8388607#32)))
    (maxsi (broadcastInDim S16384x10 ![] bcast_S_S16384x10 (id (constantI S_ 32 0#32)))
      (addi
        (Host.reduce IntOp.addi
          (muli
            (broadcastInDim S16384x10x132 ![0, 1, 2] bcast_S16384x1x132_S16384x10x132_0_1_2
              (broadcastInDim S16384x1x132 ![0, 2] bcast_S16384x132_S16384x1x132_0_2 y))
            (broadcastInDim S16384x10x132 ![0, 1, 2] bcast_S1x10x132_S16384x10x132_0_1_2
              (broadcastInDim S1x10x132 ![1, 2] bcast_S10x132_S1x10x132_1_2 w)))
          (constantI S_ 32 0#32) reducesTo_S16384x10x132_S16384x10_d2 h_S_)
        (broadcastInDim S16384x10 ![0, 1] bcast_S1x10_S16384x10_0_1 (broadcastInDim S1x10 ![1] bcast_S10_S1x10_1 b)))))
    (broadcastInDim S16384x10 ![] bcast_S_S16384x10 (constantI S_ 32 255#32))

/-- The fourth layer. -/
def layerD (y : IVec S16384x10 32) (w : IVec S1x10 32) (b : IVec S1 32) : IVec S16384x1 32 :=
  andi (minsi (broadcastInDim S16384x1 ![] bcast_S_S16384x1 (id (constantI S_ 32 8388607#32)))
    (maxsi (broadcastInDim S16384x1 ![] bcast_S_S16384x1 (id (constantI S_ 32 0#32)))
      (addi
        (Host.reduce IntOp.addi
          (muli
            (broadcastInDim S16384x1x10 ![0, 2] bcast_S16384x10_S16384x1x10_0_2 y)
            (broadcastInDim S16384x1x10 ![0, 1, 2] bcast_S1x1x10_S16384x1x10_0_1_2
              (broadcastInDim S1x1x10 ![1, 2] bcast_S1x10_S1x1x10_1_2 w)))
          (constantI S_ 32 0#32) reducesTo_S16384x1x10_S16384x1_d2 h_S_)
        (broadcastInDim S16384x1 ![0, 1] bcast_S1x1_S16384x1_0_1 (broadcastInDim S1x1 ![1] bcast_S1_S1x1_1 b)))))
    (broadcastInDim S16384x1 ![] bcast_S_S16384x1 (constantI S_ 32 255#32))

/-- The third layer at an index is the integer network's, the arguments in their ranges. -/
theorem layerC_at (y : IVec S16384x132 32) (w : IVec S10x132 32) (b : IVec S10 32) (n : Fin 16384) (j : Fin 10)
    (B : Fin 132 → ℤ) (W : Fin 10 → Fin 132 → ℤ) (hB : ∀ p, y (ix2 n p) = wd (B p)) (hW : ∀ j p, w (ix2 j p) = wd (W j p))
    (hb : ∀ j : Fin 10, b (ix1 j) = 0#32) (hBr : ∀ p, 0 ≤ B p ∧ B p < 256) (hWr : ∀ j p, -128 ≤ W j p ∧ W j p < 128) :
    layerC y w b (ix2 n j) = wd (fc1 B W j) := by
  have hbd := sum_bound (fun p : Fin 132 => B p * W j p) 32640 (fun p => mul_bound _ _ (hBr _) (hWr _ _))
  unfold fc1
  rw [← trunc_wd _ (hbd.trans (by norm_num))]
  unfold layerC
  pointwise
  simp only [hB, hW, muli_wd, hb]
  rw [fold_wd, show (0#32 : BitVec 32) = wd 0 from rfl, addi_wd, add_zero]
  rfl

/-- The fourth layer at an index is the integer network's, the arguments in their ranges. -/
theorem layerD_at (y : IVec S16384x10 32) (w : IVec S1x10 32) (b : IVec S1 32) (n : Fin 16384)
    (H : Fin 10 → ℤ) (W : Fin 10 → ℤ) (hH : ∀ j, y (ix2 n j) = wd (H j)) (hW : ∀ j, w (ix2 0 j) = wd (W j))
    (hb : ∀ j : Fin 1, b (ix1 j) = 0#32) (hHr : ∀ p, 0 ≤ H p ∧ H p < 256) (hWr : ∀ j, -128 ≤ W j ∧ W j < 128) :
    layerD y w b (ix2 n 0) = wd (fc2 H W) := by
  have hbd := sum_bound (fun j : Fin 10 => H j * W j) 32640 (fun p => mul_bound _ _ (hHr _) (hWr _))
  unfold fc2
  rw [← trunc_wd _ (hbd.trans (by norm_num))]
  unfold layerD
  pointwise
  simp only [hH, hW, muli_wd, hb]
  rw [fold_wd, show (0#32 : BitVec 32) = wd 0 from rfl, addi_wd, add_zero]
  rfl

/-- The reference's result as its four layers. -/
def result (x : IVec S16384x1x15x16 32) (w1 : IVec S10x1x3x3 32) (b1 : IVec S10 32) (w2 : IVec S1x10x3x3 32) (b2 : IVec S1 32)
    (wf1 : IVec S10x132 32) (bf1 : IVec S10 32) (wf2 : IVec S1x10 32) (bf2 : IVec S1 32) : IVec S16384x1 32 :=
  layerD (layerC (shapeCast S16384x132 (layerB (layerA x w1 b1) w2 b2) shapeCasts_S16384x1x11x12_S16384x132) wf1 bf1) wf2 bf2

/-- The reference's result at a row is the integer network on that row's image, the arguments in their ranges. -/
theorem result_at (x : IVec S16384x1x15x16 32) (w1 : IVec S10x1x3x3 32) (b1 : IVec S10 32) (w2 : IVec S1x10x3x3 32) (b2 : IVec S1 32)
    (wf1 : IVec S10x132 32) (bf1 : IVec S10 32) (wf2 : IVec S1x10 32) (bf2 : IVec S1 32) (n : Fin 16384)
    (hx : ∀ i, 0 ≤ (x i).toInt ∧ (x i).toInt < 256) (hw1 : ∀ i, -128 ≤ (w1 i).toInt ∧ (w1 i).toInt < 128)
    (hw2 : ∀ i, -128 ≤ (w2 i).toInt ∧ (w2 i).toInt < 128) (hf1 : ∀ i, -128 ≤ (wf1 i).toInt ∧ (wf1 i).toInt < 128)
    (hf2 : ∀ i, -128 ≤ (wf2 i).toInt ∧ (wf2 i).toInt < 128) (hb1 : ∀ i, b1 i = 0#32) (hb2 : ∀ i, b2 i = 0#32)
    (hbf1 : ∀ i, bf1 i = 0#32) (hbf2 : ∀ i, bf2 i = 0#32) :
    result x w1 b1 w2 b2 wf1 bf1 wf2 bf2 (ix2 n 0) = wd (net
      (fun k => (x (ix4 n 0 ⟨k.val / 16, by omega⟩ ⟨k.val % 16, by omega⟩)).toInt)
      (fun o t => (w1 (ix4 o 0 ⟨t.val / 3, by omega⟩ ⟨t.val % 3, by omega⟩)).toInt)
      (fun o t => (w2 (ix4 0 o ⟨t.val / 3, by omega⟩ ⟨t.val % 3, by omega⟩)).toInt)
      (fun j p => (wf1 (ix2 j p)).toInt) (fun j => (wf2 (ix2 0 j)).toInt)) := by
  have hl : ∀ z, 0 ≤ low8 z ∧ low8 z < 256 := fun z => ⟨low8_nonneg z, low8_lt z⟩
  unfold result net
  refine layerD_at _ _ _ n _ _ (fun j => ?_) (fun j => wd_toInt _) (fun _ => hbf2 _) (fun _ => hl _) (fun _ => hf2 _)
  refine layerC_at _ _ _ n j _ _ (fun p => ?_) (fun j p => wd_toInt _) (fun _ => hbf1 _) (fun _ => hl _) (fun _ _ => hf1 _)
  have hp : (⟨p.val / 12 * 12 + p.val % 12, by omega⟩ : Fin 132) = p := Fin.ext (by show p.val / 12 * 12 + p.val % 12 = p.val; omega)
  have h := layerB_at (layerA x w1 b1) w2 b2 n ⟨p.val / 12, by omega⟩ ⟨p.val % 12, by omega⟩ _ _
    (fun o i j => layerA_at x w1 b1 n o i j _ _ (fun k => wd_toInt _) (fun o t => wd_toInt _) (fun _ => hb1 _) (fun _ => hx _) (fun _ _ => hw1 _))
    (fun o t => wd_toInt _) (fun _ => hb2 _) (fun _ => hl _) (fun _ _ => hw2 _)
  simp only [hp] at h
  refine Eq.trans ?_ h
  pointwise

end Cert.ReferenceIdeal.Layers

end
-- ==== Proof.Ranges.lean ====
module

public import proofs.«01_k».proof.Defs
public import Idealize.ShloMosaic.Lib.Affine

/-! The precondition, read as ranges of the argument words. -/

@[expose] public section

noncomputable section

namespace Cert.Ranges

open Idealize.ShloMosaic Cert.Pre_ranges

/-- The precondition's broadcasts of a constant fit their shapes. -/
theorem facts : Cert.Pre_ranges.Facts :=
  ⟨by decide, by decide, by decide, by decide, by decide, by decide, by decide⟩

/-- A word that passes both comparisons of a range check lies in the range. -/
theorem of_check (x lo hi : BitVec 32) (h : IntOp.andi (IntOp.cmpi .sge x lo) (IntOp.cmpi .slt x hi) = 1#1) :
    lo.toInt ≤ x.toInt ∧ x.toInt < hi.toInt := by
  have hb : ∀ a b : BitVec 1, IntOp.andi a b = 1#1 → a = 1#1 ∧ b = 1#1 := by decide
  obtain ⟨h1, h2⟩ := hb _ _ h
  exact ⟨IntOp.cmpi_sge.mp h1, IntOp.cmpi_slt.mp h2⟩

/-- A word that passes the test against zero is zero. -/
theorem of_zero (x : BitVec 32) (h : IntOp.cmpi .eq x 0#32 = 1#1) : x = 0#32 := IntOp.cmpi_eq.mp h

attribute [local instance] facts

variable (x : IVec S16384x1x15x16 32) (w1 : IVec S10x1x3x3 32) (b1 : IVec S10 32) (w2 : IVec S1x10x3x3 32) (b2 : IVec S1 32)
  (wf1 : IVec S10x132 32) (bf1 : IVec S10 32) (wf2 : IVec S1x10 32) (bf2 : IVec S1 32)

/-- The activations are bytes. -/
theorem x_range (h : (fn (F := Ideal) x w1 b1 w2 b2 wf1 bf1 wf2 bf2).1 = fun _ => 1#1) (i : S16384x1x15x16.Idx) :
    0 ≤ (x i).toInt ∧ (x i).toInt < 256 := of_check (x i) 0#32 256#32 (congrFun h i)

/-- The first convolution's weights are signed bytes. -/
theorem w1_range (h : (fn (F := Ideal) x w1 b1 w2 b2 wf1 bf1 wf2 bf2).2.1 = fun _ => 1#1) (i : S10x1x3x3.Idx) :
    -128 ≤ (w1 i).toInt ∧ (w1 i).toInt < 128 := of_check (w1 i) 4294967168#32 128#32 (congrFun h i)

/-- The second convolution's weights are signed bytes. -/
theorem w2_range (h : (fn (F := Ideal) x w1 b1 w2 b2 wf1 bf1 wf2 bf2).2.2.1 = fun _ => 1#1) (i : S1x10x3x3.Idx) :
    -128 ≤ (w2 i).toInt ∧ (w2 i).toInt < 128 := of_check (w2 i) 4294967168#32 128#32 (congrFun h i)

/-- The first fully connected layer's weights are signed bytes. -/
theorem wf1_range (h : (fn (F := Ideal) x w1 b1 w2 b2 wf1 bf1 wf2 bf2).2.2.2.1 = fun _ => 1#1) (i : S10x132.Idx) :
    -128 ≤ (wf1 i).toInt ∧ (wf1 i).toInt < 128 := of_check (wf1 i) 4294967168#32 128#32 (congrFun h i)

/-- The second fully connected layer's weights are signed bytes. -/
theorem wf2_range (h : (fn (F := Ideal) x w1 b1 w2 b2 wf1 bf1 wf2 bf2).2.2.2.2.1 = fun _ => 1#1) (i : S1x10.Idx) :
    -128 ≤ (wf2 i).toInt ∧ (wf2 i).toInt < 128 := of_check (wf2 i) 4294967168#32 128#32 (congrFun h i)

/-- The first convolution's biases are zero. -/
theorem b1_zero (h : (fn (F := Ideal) x w1 b1 w2 b2 wf1 bf1 wf2 bf2).2.2.2.2.2.1 = fun _ => 1#1) (i : S10.Idx) : b1 i = 0#32 :=
  of_zero _ (congrFun h i)

/-- The second convolution's bias is zero. -/
theorem b2_zero (h : (fn (F := Ideal) x w1 b1 w2 b2 wf1 bf1 wf2 bf2).2.2.2.2.2.2.1 = fun _ => 1#1) (i : S1.Idx) : b2 i = 0#32 :=
  of_zero _ (congrFun h i)

/-- The first fully connected layer's biases are zero. -/
theorem bf1_zero (h : (fn (F := Ideal) x w1 b1 w2 b2 wf1 bf1 wf2 bf2).2.2.2.2.2.2.2.1 = fun _ => 1#1) (i : S10.Idx) : bf1 i = 0#32 :=
  of_zero _ (congrFun h i)

/-- The second fully connected layer's bias is zero. -/
theorem bf2_zero (h : (fn (F := Ideal) x w1 b1 w2 b2 wf1 bf1 wf2 bf2).2.2.2.2.2.2.2.2 = fun _ => 1#1) (i : S1.Idx) : bf2 i = 0#32 :=
  of_zero _ (congrFun h i)

end Cert.Ranges

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelResult
public import proofs.«01_k».proof.Proof.RefResult
public import proofs.«01_k».proof.Proof.Ranges
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The reference runs, keeps its arguments and ends quiescent. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

attribute [local instance] Cert.Ranges.facts

/-- The same under the precondition. -/
theorem quiescent_ReferenceIdeal_pre_ranges : quiescent_ReferenceIdeal_pre_ranges := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's four layers on the kernel's arguments are the kernel's result. -/
theorem equation (m : (ℓ : Loc Cert.KernelIdeal.nD Cert.KernelIdeal.τ Cert.KernelIdeal.sig) → Buf (Elt Ideal) ℓ)
    (hpre : Pre_KernelIdeal_ranges m) (c : Dev Cert.KernelIdeal.nD) :
    Cert.ReferenceIdeal.Layers.result (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) (m (c.tc.loc Cert.KernelIdeal.main_arg6)) (m (c.tc.loc Cert.KernelIdeal.main_arg7))
      (m (c.tc.loc Cert.KernelIdeal.main_arg8)) = Cert.KernelIdeal.Value.G10 m c := by
  obtain ⟨h0, h1, h2, h3, h4, h5, h6, h7, h8⟩ := hpre c
  funext i
  obtain ⟨r, rfl⟩ : ∃ r : Fin 16384, i = ix2 r 0 := ⟨i 0, by
    funext a
    match a with
    | ⟨0, _⟩ => rfl
    | ⟨1, _⟩ => exact Subsingleton.elim (α := Fin 1) _ _⟩
  refine (Cert.ReferenceIdeal.Layers.result_at _ _ _ _ _ _ _ _ _ r (Cert.Ranges.x_range _ _ _ _ _ _ _ _ _ h0)
    (Cert.Ranges.w1_range _ _ _ _ _ _ _ _ _ h1) (Cert.Ranges.w2_range _ _ _ _ _ _ _ _ _ h2) (Cert.Ranges.wf1_range _ _ _ _ _ _ _ _ _ h3)
    (Cert.Ranges.wf2_range _ _ _ _ _ _ _ _ _ h4) (Cert.Ranges.b1_zero _ _ _ _ _ _ _ _ _ h5) (Cert.Ranges.b2_zero _ _ _ _ _ _ _ _ _ h6)
    (Cert.Ranges.bf1_zero _ _ _ _ _ _ _ _ _ h7) (Cert.Ranges.bf2_zero _ _ _ _ _ _ _ _ _ h8)).trans ?_
  exact (Cert.KernelIdeal.Result.result_at m c r).symm

/-- On arguments in their ranges the kernel and the reference end with equal results. -/
theorem algebraic : algebraic_KernelIdeal_ReferenceIdeal_pre_ranges := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨a0, a1, a2, a3, a4, a5, a6, a7, a8⟩ := hagree c
  refine Eq.trans ?_ (equation m hpre c)
  rw [← a0, ← a1, ← a2, ← a3, ← a4, ← a5, ← a6, ← a7, ← a8]
  rfl

/-- Everything claimed. -/
theorem claim : Cert.Claim := ⟨Cert.Kernel.Gen.facts, Cert.KernelIdeal.Gen.facts, Cert.ReferenceIdeal.Gen.facts, Cert.Ranges.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_ranges, (trivial : preserves_Kernel_KernelIdeal), algebraic⟩

end Cert.Proof

end
